-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S512x2x128 Cert.KernelIdeal.S512x1x128
  ∧ IdealRules.bf16_pair.BufferStatement Cert.KernelIdeal.S1112x2x128 Cert.KernelIdeal.S1112x1x128
  ∧ IdealRules.bf16_pair.Statement Cert.KernelIdeal.S1112x2x128 Cert.KernelIdeal.S1112x1x128
  ∧ IdealRules.bf16_pair.SelectZeroStatement Cert.KernelIdeal.S1112x128
  ∧ IdealRules.bf16_pair.PackStatement Cert.KernelIdeal.S512x128
  ∧ IdealRules.bf16_pair.Statement Cert.KernelIdeal.S512x2x128 Cert.KernelIdeal.S512x1x128
  ∧ IdealRules.bf16_pair.Statement Cert.KernelIdeal.S1x2x128 Cert.KernelIdeal.S1x1x128
  ∧ IdealRules.bf16_pair.Statement Cert.KernelIdeal.S2x128 Cert.KernelIdeal.S1x128
  ∧ IdealRules.bf16_pair.Statement Cert.KernelIdeal.S1104x2x128 Cert.KernelIdeal.S1104x1x128
  ∧ IdealRules.bf16_pair.Statement Cert.KernelIdeal.S2208x128 Cert.KernelIdeal.S1104x128

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S24x4096x1152 : Shape := ⟨3, ![24, 4096, 1152]⟩
abbrev S24x4096 : Shape := ⟨2, ![24, 4096]⟩
abbrev S1152x256 : Shape := ⟨2, ![1152, 256]⟩
abbrev S256 : Shape := ⟨1, ![256]⟩
abbrev S_ : Shape := ⟨0, ![]⟩

class Facts : Prop where
  bcast_S_S24x4096 : S_.BroadcastsInDim S24x4096 (![] : Fin 0 → Fin S24x4096.rank)
  reducesTo_S24x4096_S_d0_1 : S24x4096.ReducesTo [0, 1] S_
  h_S_ : 0 < S_.numel

variable [Facts]

def fn {F : FTy → Type} [FloatOps F] (main_arg0 : IVec S24x4096x1152 8) (main_arg1 : FVec F S24x4096 .f32) (main_arg2 : FVec F S1152x256 .fp8e4m3) (main_arg3 : FVec F S256 .f32) (main_arg4 : FVec F S256 .f32) (main_arg5 : IVec S24x4096 32) : IVec S_ 1 :=
  let main_c : IVec S_ 32 := constantI S_ 32 4294967288#32
  let main_v0 : IVec S24x4096 32 := broadcastInDim S24x4096 ![] bcast_S_S24x4096 main_c
  let main_v1 : IVec S24x4096 1 := cmpi .sge main_arg5 main_v0
  let main_c_0 : IVec S_ 32 := constantI S_ 32 1104#32
  let main_v2 : IVec S24x4096 32 := broadcastInDim S24x4096 ![] bcast_S_S24x4096 main_c_0
  let main_v3 : IVec S24x4096 1 := cmpi .slt main_arg5 main_v2
  let main_v4 : IVec S24x4096 1 := andi main_v1 main_v3
  let main_c_1 : IVec S_ 1 := constantI S_ 1 1#1
  let main_v5 : IVec S_ 1 := (fun x v => Host.reduce IntOp.andi x v reducesTo_S24x4096_S_d0_1 h_S_) main_v4 main_c_1
  main_v5
-- ==== Kernel.lean ====
abbrev S24x4096x1152 : Shape := ⟨3, ![24, 4096, 1152]⟩
abbrev S24x4096 : Shape := ⟨2, ![24, 4096]⟩
abbrev S1152x256 : Shape := ⟨2, ![1152, 256]⟩
abbrev S256 : Shape := ⟨1, ![256]⟩
abbrev S1x256 : Shape := ⟨2, ![1, 256]⟩
abbrev S24x1100x256 : Shape := ⟨3, ![24, 1100, 256]⟩
abbrev S24x1100 : Shape := ⟨2, ![24, 1100]⟩
abbrev S24x4096x256 : Shape := ⟨3, ![24, 4096, 256]⟩
abbrev S8x4096 : Shape := ⟨2, ![8, 4096]⟩
abbrev S1x4096x1152 : Shape := ⟨3, ![1, 4096, 1152]⟩
abbrev S1x1100x256 : Shape := ⟨3, ![1, 1100, 256]⟩
abbrev S8x1100 : Shape := ⟨2, ![8, 1100]⟩
abbrev S1x4096x256 : Shape := ⟨3, ![1, 4096, 256]⟩
abbrev S512x128 : Shape := ⟨2, ![512, 128]⟩
abbrev S1112x128 : Shape := ⟨2, ![1112, 128]⟩
abbrev S1x512x1152 : Shape := ⟨3, ![1, 512, 1152]⟩
abbrev S512x1152 : Shape := ⟨2, ![512, 1152]⟩
abbrev S512x256 : Shape := ⟨2, ![512, 256]⟩
abbrev S8x128 : Shape := ⟨2, ![8, 128]⟩
abbrev S1x128 : Shape := ⟨2, ![1, 128]⟩
abbrev S128x128 : Shape := ⟨2, ![128, 128]⟩
abbrev S1x512x128 : Shape := ⟨3, ![1, 512, 128]⟩
abbrev S1x1 : Shape := ⟨2, ![1, 1]⟩
abbrev S2x128 : Shape := ⟨2, ![2, 128]⟩
abbrev S1104x128 : Shape := ⟨2, ![1104, 128]⟩
abbrev S2208x128 : Shape := ⟨2, ![2208, 128]⟩
abbrev S1100x128 : Shape := ⟨2, ![1100, 128]⟩
abbrev S1x1100x128 : Shape := ⟨3, ![1, 1100, 128]⟩
abbrev S1x4096 : Shape := ⟨2, ![1, 4096]⟩
abbrev S16x4096 : Shape := ⟨2, ![16, 4096]⟩
abbrev S128x4096 : Shape := ⟨2, ![128, 4096]⟩
abbrev S16x128 : Shape := ⟨2, ![16, 128]⟩
abbrev S8x76 : Shape := ⟨2, ![8, 76]⟩

abbrev nBuf : Space → Nat
  | .hbm => 11
  | .vmem => 25
  | .smem => 2
  | _ => 0

abbrev bufTy : (tb : Table) → Fin (tcTables nBuf tb) → BufTy
  | .hbm, ⟨0, _⟩ => ⟨S24x4096x1152, .i8⟩
  | .hbm, ⟨1, _⟩ => ⟨S24x4096, .f32⟩
  | .hbm, ⟨2, _⟩ => ⟨S1152x256, .fp8e4m3⟩
  | .hbm, ⟨3, _⟩ => ⟨S256, .f32⟩
  | .hbm, ⟨4, _⟩ => ⟨S256, .f32⟩
  | .hbm, ⟨5, _⟩ => ⟨S24x4096, .i32⟩
  | .hbm, ⟨6, _⟩ => ⟨S1x256, .f32⟩
  | .hbm, ⟨7, _⟩ => ⟨S1x256, .f32⟩
  | .hbm, ⟨8, _⟩ => ⟨S24x1100x256, .bf16⟩
  | .hbm, ⟨9, _⟩ => ⟨S24x1100, .i32⟩
  | .hbm, ⟨10, _⟩ => ⟨S24x4096x256, .bf16⟩
  | .local _ .vmem, ⟨0, _⟩ => ⟨S1x4096x1152, .i8⟩
  | .local _ .vmem, ⟨1, _⟩ => ⟨S1x4096x1152, .i8⟩
  | .local _ .vmem, ⟨2, _⟩ => ⟨S8x4096, .f32⟩
  | .local _ .vmem, ⟨3, _⟩ => ⟨S8x4096, .f32⟩
  | .local _ .vmem, ⟨4, _⟩ => ⟨S8x4096, .i32⟩
  | .local _ .vmem, ⟨5, _⟩ => ⟨S8x4096, .i32⟩
  | .local _ .vmem, ⟨6, _⟩ => ⟨S1152x256, .fp8e4m3⟩
  | .local _ .vmem, ⟨7, _⟩ => ⟨S1x256, .f32⟩
  | .local _ .vmem, ⟨8, _⟩ => ⟨S1x256, .f32⟩
  | .local _ .vmem, ⟨9, _⟩ => ⟨S1x1100x256, .bf16⟩
  | .local _ .vmem, ⟨10, _⟩ => ⟨S1x1100x256, .bf16⟩
  | .local _ .vmem, ⟨11, _⟩ => ⟨S8x1100, .i32⟩
  | .local _ .vmem, ⟨12, _⟩ => ⟨S8x1100, .i32⟩
  | .local _ .vmem, ⟨13, _⟩ => ⟨S1x4096x256, .bf16⟩
  | .local _ .vmem, ⟨14, _⟩ => ⟨S1x4096x256, .bf16⟩
  | .local _ .vmem, ⟨15, _⟩ => ⟨S512x128, .i32⟩
  | .local _ .vmem, ⟨16, _⟩ => ⟨S512x128, .i32⟩
  | .local _ .vmem, ⟨17, _⟩ => ⟨S1112x128, .i32⟩
  | .local _ .vmem, ⟨18, _⟩ => ⟨S1112x128, .i32⟩
  | .local _ .vmem, ⟨19, _⟩ => ⟨S1112x128, .i32⟩
  | .local _ .vmem, ⟨20, _⟩ => ⟨S1112x128, .i32⟩
  | .local _ .vmem, ⟨21, _⟩ => ⟨S1112x128, .i32⟩
  | .local _ .vmem, ⟨22, _⟩ => ⟨S1112x128, .i32⟩
  | .local _ .vmem, ⟨23, _⟩ => ⟨S1112x128, .i32⟩
  | .local _ .vmem, ⟨24, _⟩ => ⟨S1112x128, .i32⟩
  | .local _ .smem, ⟨0, _⟩ => ⟨S8x4096, .i32⟩
  | .local _ .smem, ⟨1, _⟩ => ⟨S8x4096, .i32⟩
  | _, _ => ⟨S24x4096x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32_75 : BitVec 32 := 0#32
  let c4_i32 : BitVec 32 := 4#32
  let v145 : BitVec 32 := Scalar.addi c0_i32_75 c4_i32
  let c1_i32_76 : BitVec 32 := 1#32
  ⟨c0_i32_75, v145, c1_i32_76⟩
def k0_off1 (k0_t1 : Fin k0_t1_loop.trips) : Fin 3 → Nat :=
  let c0_147 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32 : BitVec 32 := 512#32
  let v309 : BitVec 32 := Scalar.muli v308 c512_i32
  let v310 : Index := Scalar.indexCast v309
  let c0_148 : Index := 0#32
  ![0, v310.toNat, 0]
def k0_off2 (k0_t1 : Fin k0_t1_loop.trips) (c0_i32_153 : BitVec 32) : Fin 2 → Nat :=
  let c0_154 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_152 : BitVec 32 := 512#32
  let v316 : BitVec 32 := Scalar.muli v308 c512_i32_152
  let v317 : BitVec 32 := Scalar.addi v316 c0_i32_153
  let v318 : Index := Scalar.indexCast v317
  ![0, v318.toNat]
def k0_off3 (k0_t1 : Fin k0_t1_loop.trips) : Fin 3 → Nat :=
  let c0_200 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_199 : BitVec 32 := 512#32
  let v422 : BitVec 32 := Scalar.muli v308 c512_i32_199
  let v423 : Index := Scalar.indexCast v422
  let c0_201 : Index := 0#32
  ![0, v423.toNat, 0]
def k0_off4 (k0_t1 : Fin k0_t1_loop.trips) : Fin 3 → Nat :=
  let c0_203 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_202 : BitVec 32 := 512#32
  let v428 : BitVec 32 := Scalar.muli v308 c512_i32_202
  let v429 : Index := Scalar.indexCast v428
  let c128_204 : Index := 128#32
  ![0, v429.toNat, 128]
@[reducible] def k0_t2_loop : Scf.Loop 32 :=
  let c0_i32_207 : BitVec 32 := 0#32
  let c64_i32 : BitVec 32 := 64#32
  let v437 : BitVec 32 := Scalar.addi c0_i32_207 c64_i32
  let c1_i32_208 : BitVec 32 := 1#32
  ⟨c0_i32_207, v437, c1_i32_208⟩
def k0_off5 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v448 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_220 : BitVec 32 := 512#32
  let v446 : BitVec 32 := Scalar.muli v307 c512_i32_220
  let c0_i32_207 : BitVec 32 := 0#32
  let c1_i32_208 : BitVec 32 := 1#32
  let arg22 : BitVec 32 := Scf.iv c0_i32_207 c1_i32_208 k0_t2
  let c8_i32_218 : BitVec 32 := 8#32
  let v444 : BitVec 32 := Scalar.muli arg22 c8_i32_218
  let c0_i32_219 : BitVec 32 := 0#32
  let v445 : BitVec 32 := Scalar.addi v444 c0_i32_219
  let v447 : BitVec 32 := Scalar.addi v446 v445
  let v449 : Index := Scalar.indexCast v447
  ![v448.toNat, v449.toNat]
def k0_off6 (v450 : BitVec 32) : Fin 2 → Nat :=
  let c8_i32_221 : BitVec 32 := 8#32
  let v451 : BitVec 32 := Scalar.addi v450 c8_i32_221
  let v452 : Index := Scalar.indexCast v451
  let c0_222 : Index := 0#32
  ![v452.toNat, 0]

def k0_chk1 (v450 : BitVec 32) : Prop :=
  (∀ a, (k0_off6 v450) a + S1x128.size a ≤ S1112x128.size a)
theorem k0_off6_inb : ∀ (v450 : BitVec 32) (k0_hw1 : k0_chk1 v450), ∀ a, (k0_off6 v450) a + S1x128.size a ≤ S1112x128.size a := fun v450 k0_hw1 => k0_hw1

def k0_off7 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_218 : BitVec 32 := 8#32
  let v444 : BitVec 32 := Scalar.muli arg22 c8_i32_218
  let c0_i32_219 : BitVec 32 := 0#32
  let v445 : BitVec 32 := Scalar.addi v444 c0_i32_219
  let v455 : Index := Scalar.indexCast v445
  let c0_223 : Index := 0#32
  ![v455.toNat, 0]
def k0_off8 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v468 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_227 : BitVec 32 := 512#32
  let v466 : BitVec 32 := Scalar.muli v307 c512_i32_227
  let c0_i32_207 : BitVec 32 := 0#32
  let c1_i32_208 : BitVec 32 := 1#32
  let arg22 : BitVec 32 := Scf.iv c0_i32_207 c1_i32_208 k0_t2
  let c8_i32_225 : BitVec 32 := 8#32
  let v464 : BitVec 32 := Scalar.muli arg22 c8_i32_225
  let c1_i32_226 : BitVec 32 := 1#32
  let v465 : BitVec 32 := Scalar.addi v464 c1_i32_226
  let v467 : BitVec 32 := Scalar.addi v466 v465
  let v469 : Index := Scalar.indexCast v467
  ![v468.toNat, v469.toNat]
def k0_off9 (v470 : BitVec 32) : Fin 2 → Nat :=
  let c8_i32_228 : BitVec 32 := 8#32
  let v471 : BitVec 32 := Scalar.addi v470 c8_i32_228
  let v472 : Index := Scalar.indexCast v471
  let c0_229 : Index := 0#32
  ![v472.toNat, 0]

def k0_chk2 (v470 : BitVec 32) : Prop :=
  (∀ a, (k0_off9 v470) a + S1x128.size a ≤ S1112x128.size a)
theorem k0_off9_inb : ∀ (v470 : BitVec 32) (k0_hw2 : k0_chk2 v470), ∀ a, (k0_off9 v470) a + S1x128.size a ≤ S1112x128.size a := fun v470 k0_hw2 => k0_hw2

def k0_off10 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_225 : BitVec 32 := 8#32
  let v464 : BitVec 32 := Scalar.muli arg22 c8_i32_225
  let c1_i32_226 : BitVec 32 := 1#32
  let v465 : BitVec 32 := Scalar.addi v464 c1_i32_226
  let v475 : Index := Scalar.indexCast v465
  let c0_230 : Index := 0#32
  ![v475.toNat, 0]
def k0_off11 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_234 : BitVec 32 := 512#32
  let v486 : BitVec 32 := Scalar.muli v307 c512_i32_234
  let c0_i32_207 : BitVec 32 := 0#32
  let c1_i32_208 : BitVec 32 := 1#32
  let arg22 : BitVec 32 := Scf.iv c0_i32_207 c1_i32_208 k0_t2
  let c8_i32_232 : BitVec 32 := 8#32
  let v484 : BitVec 32 := Scalar.muli arg22 c8_i32_232
  let c2_i32_233 : BitVec 32 := 2#32
  let v485 : BitVec 32 := Scalar.addi v484 c2_i32_233
  let v487 : BitVec 32 := Scalar.addi v486 v485
  let v489 : Index := Scalar.indexCast v487
  ![v488.toNat, v489.toNat]
def k0_off12 (v490 : BitVec 32) : Fin 2 → Nat :=
  let c8_i32_235 : BitVec 32 := 8#32
  let v491 : BitVec 32 := Scalar.addi v490 c8_i32_235
  let v492 : Index := Scalar.indexCast v491
  let c0_236 : Index := 0#32
  ![v492.toNat, 0]

def k0_chk3 (v490 : BitVec 32) : Prop :=
  (∀ a, (k0_off12 v490) a + S1x128.size a ≤ S1112x128.size a)
theorem k0_off12_inb : ∀ (v490 : BitVec 32) (k0_hw3 : k0_chk3 v490), ∀ a, (k0_off12 v490) a + S1x128.size a ≤ S1112x128.size a := fun v490 k0_hw3 => k0_hw3

def k0_off13 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_232 : BitVec 32 := 8#32
  let v484 : BitVec 32 := Scalar.muli arg22 c8_i32_232
  let c2_i32_233 : BitVec 32 := 2#32
  let v485 : BitVec 32 := Scalar.addi v484 c2_i32_233
  let v495 : Index := Scalar.indexCast v485
  let c0_237 : Index := 0#32
  ![v495.toNat, 0]
def k0_off14 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v508 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_240 : BitVec 32 := 512#32
  let v506 : BitVec 32 := Scalar.muli v307 c512_i32_240
  let c0_i32_207 : BitVec 32 := 0#32
  let c1_i32_208 : BitVec 32 := 1#32
  let arg22 : BitVec 32 := Scf.iv c0_i32_207 c1_i32_208 k0_t2
  let c8_i32_239 : BitVec 32 := 8#32
  let v504 : BitVec 32 := Scalar.muli arg22 c8_i32_239
  let c3_i32 : BitVec 32 := 3#32
  let v505 : BitVec 32 := Scalar.addi v504 c3_i32
  let v507 : BitVec 32 := Scalar.addi v506 v505
  let v509 : Index := Scalar.indexCast v507
  ![v508.toNat, v509.toNat]
def k0_off15 (v510 : BitVec 32) : Fin 2 → Nat :=
  let c8_i32_241 : BitVec 32 := 8#32
  let v511 : BitVec 32 := Scalar.addi v510 c8_i32_241
  let v512 : Index := Scalar.indexCast v511
  let c0_242 : Index := 0#32
  ![v512.toNat, 0]

def k0_chk4 (v510 : BitVec 32) : Prop :=
  (∀ a, (k0_off15 v510) a + S1x128.size a ≤ S1112x128.size a)
theorem k0_off15_inb : ∀ (v510 : BitVec 32) (k0_hw4 : k0_chk4 v510), ∀ a, (k0_off15 v510) a + S1x128.size a ≤ S1112x128.size a := fun v510 k0_hw4 => k0_hw4

def k0_off16 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_239 : BitVec 32 := 8#32
  let v504 : BitVec 32 := Scalar.muli arg22 c8_i32_239
  let c3_i32 : BitVec 32 := 3#32
  let v505 : BitVec 32 := Scalar.addi v504 c3_i32
  let v515 : Index := Scalar.indexCast v505
  let c0_243 : Index := 0#32
  ![v515.toNat, 0]
def k0_off17 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_247 : BitVec 32 := 512#32
  let v526 : BitVec 32 := Scalar.muli v307 c512_i32_247
  let c0_i32_207 : BitVec 32 := 0#32
  let c1_i32_208 : BitVec 32 := 1#32
  let arg22 : BitVec 32 := Scf.iv c0_i32_207 c1_i32_208 k0_t2
  let c8_i32_245 : BitVec 32 := 8#32
  let v524 : BitVec 32 := Scalar.muli arg22 c8_i32_245
  let c4_i32_246 : BitVec 32 := 4#32
  let v525 : BitVec 32 := Scalar.addi v524 c4_i32_246
  let v527 : BitVec 32 := Scalar.addi v526 v525
  let v529 : Index := Scalar.indexCast v527
  ![v528.toNat, v529.toNat]
def k0_off18 (v530 : BitVec 32) : Fin 2 → Nat :=
  let c8_i32_248 : BitVec 32 := 8#32
  let v531 : BitVec 32 := Scalar.addi v530 c8_i32_248
  let v532 : Index := Scalar.indexCast v531
  let c0_249 : Index := 0#32
  ![v532.toNat, 0]

def k0_chk5 (v530 : BitVec 32) : Prop :=
  (∀ a, (k0_off18 v530) a + S1x128.size a ≤ S1112x128.size a)
theorem k0_off18_inb : ∀ (v530 : BitVec 32) (k0_hw5 : k0_chk5 v530), ∀ a, (k0_off18 v530) a + S1x128.size a ≤ S1112x128.size a := fun v530 k0_hw5 => k0_hw5

def k0_off19 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_245 : BitVec 32 := 8#32
  let v524 : BitVec 32 := Scalar.muli arg22 c8_i32_245
  let c4_i32_246 : BitVec 32 := 4#32
  let v525 : BitVec 32 := Scalar.addi v524 c4_i32_246
  let v535 : Index := Scalar.indexCast v525
  let c0_250 : Index := 0#32
  ![v535.toNat, 0]
def k0_off20 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_253 : BitVec 32 := 512#32
  let v546 : BitVec 32 := Scalar.muli v307 c512_i32_253
  let c0_i32_207 : BitVec 32 := 0#32
  let c1_i32_208 : BitVec 32 := 1#32
  let arg22 : BitVec 32 := Scf.iv c0_i32_207 c1_i32_208 k0_t2
  let c8_i32_252 : BitVec 32 := 8#32
  let v544 : BitVec 32 := Scalar.muli arg22 c8_i32_252
  let c5_i32 : BitVec 32 := 5#32
  let v545 : BitVec 32 := Scalar.addi v544 c5_i32
  let v547 : BitVec 32 := Scalar.addi v546 v545
  let v549 : Index := Scalar.indexCast v547
  ![v548.toNat, v549.toNat]
def k0_off21 (v550 : BitVec 32) : Fin 2 → Nat :=
  let c8_i32_254 : BitVec 32 := 8#32
  let v551 : BitVec 32 := Scalar.addi v550 c8_i32_254
  let v552 : Index := Scalar.indexCast v551
  let c0_255 : Index := 0#32
  ![v552.toNat, 0]

def k0_chk6 (v550 : BitVec 32) : Prop :=
  (∀ a, (k0_off21 v550) a + S1x128.size a ≤ S1112x128.size a)
theorem k0_off21_inb : ∀ (v550 : BitVec 32) (k0_hw6 : k0_chk6 v550), ∀ a, (k0_off21 v550) a + S1x128.size a ≤ S1112x128.size a := fun v550 k0_hw6 => k0_hw6

def k0_off22 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_252 : BitVec 32 := 8#32
  let v544 : BitVec 32 := Scalar.muli arg22 c8_i32_252
  let c5_i32 : BitVec 32 := 5#32
  let v545 : BitVec 32 := Scalar.addi v544 c5_i32
  let v555 : Index := Scalar.indexCast v545
  let c0_256 : Index := 0#32
  ![v555.toNat, 0]
def k0_off23 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v568 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_259 : BitVec 32 := 512#32
  let v566 : BitVec 32 := Scalar.muli v307 c512_i32_259
  let c0_i32_207 : BitVec 32 := 0#32
  let c1_i32_208 : BitVec 32 := 1#32
  let arg22 : BitVec 32 := Scf.iv c0_i32_207 c1_i32_208 k0_t2
  let c8_i32_258 : BitVec 32 := 8#32
  let v564 : BitVec 32 := Scalar.muli arg22 c8_i32_258
  let c6_i32 : BitVec 32 := 6#32
  let v565 : BitVec 32 := Scalar.addi v564 c6_i32
  let v567 : BitVec 32 := Scalar.addi v566 v565
  let v569 : Index := Scalar.indexCast v567
  ![v568.toNat, v569.toNat]
def k0_off24 (v570 : BitVec 32) : Fin 2 → Nat :=
  let c8_i32_260 : BitVec 32 := 8#32
  let v571 : BitVec 32 := Scalar.addi v570 c8_i32_260
  let v572 : Index := Scalar.indexCast v571
  let c0_261 : Index := 0#32
  ![v572.toNat, 0]

def k0_chk7 (v570 : BitVec 32) : Prop :=
  (∀ a, (k0_off24 v570) a + S1x128.size a ≤ S1112x128.size a)
theorem k0_off24_inb : ∀ (v570 : BitVec 32) (k0_hw7 : k0_chk7 v570), ∀ a, (k0_off24 v570) a + S1x128.size a ≤ S1112x128.size a := fun v570 k0_hw7 => k0_hw7

def k0_off25 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_258 : BitVec 32 := 8#32
  let v564 : BitVec 32 := Scalar.muli arg22 c8_i32_258
  let c6_i32 : BitVec 32 := 6#32
  let v565 : BitVec 32 := Scalar.addi v564 c6_i32
  let v575 : Index := Scalar.indexCast v565
  let c0_262 : Index := 0#32
  ![v575.toNat, 0]
def k0_off26 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v588 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_266 : BitVec 32 := 512#32
  let v586 : BitVec 32 := Scalar.muli v307 c512_i32_266
  let c0_i32_207 : BitVec 32 := 0#32
  let c1_i32_208 : BitVec 32 := 1#32
  let arg22 : BitVec 32 := Scf.iv c0_i32_207 c1_i32_208 k0_t2
  let c8_i32_264 : BitVec 32 := 8#32
  let v584 : BitVec 32 := Scalar.muli arg22 c8_i32_264
  let c7_i32_265 : BitVec 32 := 7#32
  let v585 : BitVec 32 := Scalar.addi v584 c7_i32_265
  let v587 : BitVec 32 := Scalar.addi v586 v585
  let v589 : Index := Scalar.indexCast v587
  ![v588.toNat, v589.toNat]
def k0_off27 (v590 : BitVec 32) : Fin 2 → Nat :=
  let c8_i32_267 : BitVec 32 := 8#32
  let v591 : BitVec 32 := Scalar.addi v590 c8_i32_267
  let v592 : Index := Scalar.indexCast v591
  let c0_268 : Index := 0#32
  ![v592.toNat, 0]

def k0_chk8 (v590 : BitVec 32) : Prop :=
  (∀ a, (k0_off27 v590) a + S1x128.size a ≤ S1112x128.size a)
theorem k0_off27_inb : ∀ (v590 : BitVec 32) (k0_hw8 : k0_chk8 v590), ∀ a, (k0_off27 v590) a + S1x128.size a ≤ S1112x128.size a := fun v590 k0_hw8 => k0_hw8

def k0_off28 (k0_t2 : Fin k0_t2_loop.trips) : Fin 2 → Nat :=
  let c0_i32_207 : BitVec 32 := 0#32
  let c1_i32_208 : BitVec 32 := 1#32
  let arg22 : BitVec 32 := Scf.iv c0_i32_207 c1_i32_208 k0_t2
  let c8_i32_264 : BitVec 32 := 8#32
  let v584 : BitVec 32 := Scalar.muli arg22 c8_i32_264
  let c7_i32_265 : BitVec 32 := 7#32
  let v585 : BitVec 32 := Scalar.addi v584 c7_i32_265
  let v595 : Index := Scalar.indexCast v585
  let c0_269 : Index := 0#32
  ![v595.toNat, 0]
def k0_cond1 (k0_t1 : Fin k0_t1_loop.trips) : BitVec 1 :=
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_210 : BitVec 32 := 2#32
  let v438 : BitVec 32 := Scalar.addi v307 c2_i32_210
  let c8_i32_211 : BitVec 32 := 8#32
  let v439 : BitVec 1 := Scalar.cmpi .slt v438 c8_i32_211
  let v440 : BitVec 32 := Scalar.extui v439
  let c0_i32_212 : BitVec 32 := 0#32
  let v441 : BitVec 1 := Scalar.cmpi .ne v440 c0_i32_212
  v441

def k0_off29 (k0_t1 : Fin k0_t1_loop.trips) : Fin 3 → Nat :=
  let c0_220 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_219 : BitVec 32 := 512#32
  let v445 : BitVec 32 := Scalar.muli v444 c512_i32_219
  let v446 : Index := Scalar.indexCast v445
  let c0_221 : Index := 0#32
  ![0, v446.toNat, 0]
def k0_off30 (k0_t1 : Fin k0_t1_loop.trips) (c0_i32_226 : BitVec 32) : Fin 2 → Nat :=
  let c0_227 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_225 : BitVec 32 := 512#32
  let v452 : BitVec 32 := Scalar.muli v444 c512_i32_225
  let v453 : BitVec 32 := Scalar.addi v452 c0_i32_226
  let v454 : Index := Scalar.indexCast v453
  ![0, v454.toNat]
def k0_off31 (k0_t1 : Fin k0_t1_loop.trips) : Fin 3 → Nat :=
  let c0_276 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_275 : BitVec 32 := 512#32
  let v558 : BitVec 32 := Scalar.muli v444 c512_i32_275
  let v559 : Index := Scalar.indexCast v558
  let c0_277 : Index := 0#32
  ![0, v559.toNat, 0]
def k0_off32 (k0_t1 : Fin k0_t1_loop.trips) : Fin 3 → Nat :=
  let c0_279 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_278 : BitVec 32 := 512#32
  let v564 : BitVec 32 := Scalar.muli v444 c512_i32_278
  let v565 : Index := Scalar.indexCast v564
  let c128_280 : Index := 128#32
  ![0, v565.toNat, 128]
@[reducible] def k0_t3_loop : Scf.Loop 32 :=
  let c0_i32_214 : BitVec 32 := 0#32
  let c64_i32_215 : BitVec 32 := 64#32
  let v443 : BitVec 32 := Scalar.addi c0_i32_214 c64_i32_215
  let c1_i32_216 : BitVec 32 := 1#32
  ⟨c0_i32_214, v443, c1_i32_216⟩
def k0_off33 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v448 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_220 : BitVec 32 := 512#32
  let v446 : BitVec 32 := Scalar.muli v442 c512_i32_220
  let c0_i32_214 : BitVec 32 := 0#32
  let c1_i32_216 : BitVec 32 := 1#32
  let arg22 : BitVec 32 := Scf.iv c0_i32_214 c1_i32_216 k0_t3
  let c8_i32_218 : BitVec 32 := 8#32
  let v444 : BitVec 32 := Scalar.muli arg22 c8_i32_218
  let c0_i32_219 : BitVec 32 := 0#32
  let v445 : BitVec 32 := Scalar.addi v444 c0_i32_219
  let v447 : BitVec 32 := Scalar.addi v446 v445
  let v449 : Index := Scalar.indexCast v447
  ![v448.toNat, v449.toNat]
def k0_off34 (v450 : BitVec 32) : Fin 2 → Nat :=
  let c8_i32_221 : BitVec 32 := 8#32
  let v451 : BitVec 32 := Scalar.addi v450 c8_i32_221
  let v452 : Index := Scalar.indexCast v451
  let c0_222 : Index := 0#32
  ![v452.toNat, 0]

def k0_chk9 (v450 : BitVec 32) : Prop :=
  (∀ a, (k0_off34 v450) a + S1x128.size a ≤ S1112x128.size a)
theorem k0_off34_inb : ∀ (v450 : BitVec 32) (k0_hw9 : k0_chk9 v450), ∀ a, (k0_off34 v450) a + S1x128.size a ≤ S1112x128.size a := fun v450 k0_hw9 => k0_hw9

def k0_off35 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_218 : BitVec 32 := 8#32
  let v444 : BitVec 32 := Scalar.muli arg22 c8_i32_218
  let c0_i32_219 : BitVec 32 := 0#32
  let v445 : BitVec 32 := Scalar.addi v444 c0_i32_219
  let v455 : Index := Scalar.indexCast v445
  let c0_223 : Index := 0#32
  ![v455.toNat, 0]
def k0_off36 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v468 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_227 : BitVec 32 := 512#32
  let v466 : BitVec 32 := Scalar.muli v442 c512_i32_227
  let c0_i32_214 : BitVec 32 := 0#32
  let c1_i32_216 : BitVec 32 := 1#32
  let arg22 : BitVec 32 := Scf.iv c0_i32_214 c1_i32_216 k0_t3
  let c8_i32_225 : BitVec 32 := 8#32
  let v464 : BitVec 32 := Scalar.muli arg22 c8_i32_225
  let c1_i32_226 : BitVec 32 := 1#32
  let v465 : BitVec 32 := Scalar.addi v464 c1_i32_226
  let v467 : BitVec 32 := Scalar.addi v466 v465
  let v469 : Index := Scalar.indexCast v467
  ![v468.toNat, v469.toNat]
def k0_off37 (v470 : BitVec 32) : Fin 2 → Nat :=
  let c8_i32_228 : BitVec 32 := 8#32
  let v471 : BitVec 32 := Scalar.addi v470 c8_i32_228
  let v472 : Index := Scalar.indexCast v471
  let c0_229 : Index := 0#32
  ![v472.toNat, 0]

def k0_chk10 (v470 : BitVec 32) : Prop :=
  (∀ a, (k0_off37 v470) a + S1x128.size a ≤ S1112x128.size a)
theorem k0_off37_inb : ∀ (v470 : BitVec 32) (k0_hw10 : k0_chk10 v470), ∀ a, (k0_off37 v470) a + S1x128.size a ≤ S1112x128.size a := fun v470 k0_hw10 => k0_hw10

def k0_off38 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_225 : BitVec 32 := 8#32
  let v464 : BitVec 32 := Scalar.muli arg22 c8_i32_225
  let c1_i32_226 : BitVec 32 := 1#32
  let v465 : BitVec 32 := Scalar.addi v464 c1_i32_226
  let v475 : Index := Scalar.indexCast v465
  let c0_230 : Index := 0#32
  ![v475.toNat, 0]
def k0_off39 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_234 : BitVec 32 := 512#32
  let v486 : BitVec 32 := Scalar.muli v442 c512_i32_234
  let c0_i32_214 : BitVec 32 := 0#32
  let c1_i32_216 : BitVec 32 := 1#32
  let arg22 : BitVec 32 := Scf.iv c0_i32_214 c1_i32_216 k0_t3
  let c8_i32_232 : BitVec 32 := 8#32
  let v484 : BitVec 32 := Scalar.muli arg22 c8_i32_232
  let c2_i32_233 : BitVec 32 := 2#32
  let v485 : BitVec 32 := Scalar.addi v484 c2_i32_233
  let v487 : BitVec 32 := Scalar.addi v486 v485
  let v489 : Index := Scalar.indexCast v487
  ![v488.toNat, v489.toNat]
def k0_off40 (v490 : BitVec 32) : Fin 2 → Nat :=
  let c8_i32_235 : BitVec 32 := 8#32
  let v491 : BitVec 32 := Scalar.addi v490 c8_i32_235
  let v492 : Index := Scalar.indexCast v491
  let c0_236 : Index := 0#32
  ![v492.toNat, 0]

def k0_chk11 (v490 : BitVec 32) : Prop :=
  (∀ a, (k0_off40 v490) a + S1x128.size a ≤ S1112x128.size a)
theorem k0_off40_inb : ∀ (v490 : BitVec 32) (k0_hw11 : k0_chk11 v490), ∀ a, (k0_off40 v490) a + S1x128.size a ≤ S1112x128.size a := fun v490 k0_hw11 => k0_hw11

def k0_off41 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_232 : BitVec 32 := 8#32
  let v484 : BitVec 32 := Scalar.muli arg22 c8_i32_232
  let c2_i32_233 : BitVec 32 := 2#32
  let v485 : BitVec 32 := Scalar.addi v484 c2_i32_233
  let v495 : Index := Scalar.indexCast v485
  let c0_237 : Index := 0#32
  ![v495.toNat, 0]
def k0_off42 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v508 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_240 : BitVec 32 := 512#32
  let v506 : BitVec 32 := Scalar.muli v442 c512_i32_240
  let c0_i32_214 : BitVec 32 := 0#32
  let c1_i32_216 : BitVec 32 := 1#32
  let arg22 : BitVec 32 := Scf.iv c0_i32_214 c1_i32_216 k0_t3
  let c8_i32_239 : BitVec 32 := 8#32
  let v504 : BitVec 32 := Scalar.muli arg22 c8_i32_239
  let c3_i32 : BitVec 32 := 3#32
  let v505 : BitVec 32 := Scalar.addi v504 c3_i32
  let v507 : BitVec 32 := Scalar.addi v506 v505
  let v509 : Index := Scalar.indexCast v507
  ![v508.toNat, v509.toNat]
def k0_off43 (v510 : BitVec 32) : Fin 2 → Nat :=
  let c8_i32_241 : BitVec 32 := 8#32
  let v511 : BitVec 32 := Scalar.addi v510 c8_i32_241
  let v512 : Index := Scalar.indexCast v511
  let c0_242 : Index := 0#32
  ![v512.toNat, 0]

def k0_chk12 (v510 : BitVec 32) : Prop :=
  (∀ a, (k0_off43 v510) a + S1x128.size a ≤ S1112x128.size a)
theorem k0_off43_inb : ∀ (v510 : BitVec 32) (k0_hw12 : k0_chk12 v510), ∀ a, (k0_off43 v510) a + S1x128.size a ≤ S1112x128.size a := fun v510 k0_hw12 => k0_hw12

def k0_off44 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_239 : BitVec 32 := 8#32
  let v504 : BitVec 32 := Scalar.muli arg22 c8_i32_239
  let c3_i32 : BitVec 32 := 3#32
  let v505 : BitVec 32 := Scalar.addi v504 c3_i32
  let v515 : Index := Scalar.indexCast v505
  let c0_243 : Index := 0#32
  ![v515.toNat, 0]
def k0_off45 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_247 : BitVec 32 := 512#32
  let v526 : BitVec 32 := Scalar.muli v442 c512_i32_247
  let c0_i32_214 : BitVec 32 := 0#32
  let c1_i32_216 : BitVec 32 := 1#32
  let arg22 : BitVec 32 := Scf.iv c0_i32_214 c1_i32_216 k0_t3
  let c8_i32_245 : BitVec 32 := 8#32
  let v524 : BitVec 32 := Scalar.muli arg22 c8_i32_245
  let c4_i32_246 : BitVec 32 := 4#32
  let v525 : BitVec 32 := Scalar.addi v524 c4_i32_246
  let v527 : BitVec 32 := Scalar.addi v526 v525
  let v529 : Index := Scalar.indexCast v527
  ![v528.toNat, v529.toNat]
def k0_off46 (v530 : BitVec 32) : Fin 2 → Nat :=
  let c8_i32_248 : BitVec 32 := 8#32
  let v531 : BitVec 32 := Scalar.addi v530 c8_i32_248
  let v532 : Index := Scalar.indexCast v531
  let c0_249 : Index := 0#32
  ![v532.toNat, 0]

def k0_chk13 (v530 : BitVec 32) : Prop :=
  (∀ a, (k0_off46 v530) a + S1x128.size a ≤ S1112x128.size a)
theorem k0_off46_inb : ∀ (v530 : BitVec 32) (k0_hw13 : k0_chk13 v530), ∀ a, (k0_off46 v530) a + S1x128.size a ≤ S1112x128.size a := fun v530 k0_hw13 => k0_hw13

def k0_off47 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_245 : BitVec 32 := 8#32
  let v524 : BitVec 32 := Scalar.muli arg22 c8_i32_245
  let c4_i32_246 : BitVec 32 := 4#32
  let v525 : BitVec 32 := Scalar.addi v524 c4_i32_246
  let v535 : Index := Scalar.indexCast v525
  let c0_250 : Index := 0#32
  ![v535.toNat, 0]
def k0_off48 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_253 : BitVec 32 := 512#32
  let v546 : BitVec 32 := Scalar.muli v442 c512_i32_253
  let c0_i32_214 : BitVec 32 := 0#32
  let c1_i32_216 : BitVec 32 := 1#32
  let arg22 : BitVec 32 := Scf.iv c0_i32_214 c1_i32_216 k0_t3
  let c8_i32_252 : BitVec 32 := 8#32
  let v544 : BitVec 32 := Scalar.muli arg22 c8_i32_252
  let c5_i32 : BitVec 32 := 5#32
  let v545 : BitVec 32 := Scalar.addi v544 c5_i32
  let v547 : BitVec 32 := Scalar.addi v546 v545
  let v549 : Index := Scalar.indexCast v547
  ![v548.toNat, v549.toNat]
def k0_off49 (v550 : BitVec 32) : Fin 2 → Nat :=
  let c8_i32_254 : BitVec 32 := 8#32
  let v551 : BitVec 32 := Scalar.addi v550 c8_i32_254
  let v552 : Index := Scalar.indexCast v551
  let c0_255 : Index := 0#32
  ![v552.toNat, 0]

def k0_chk14 (v550 : BitVec 32) : Prop :=
  (∀ a, (k0_off49 v550) a + S1x128.size a ≤ S1112x128.size a)
theorem k0_off49_inb : ∀ (v550 : BitVec 32) (k0_hw14 : k0_chk14 v550), ∀ a, (k0_off49 v550) a + S1x128.size a ≤ S1112x128.size a := fun v550 k0_hw14 => k0_hw14

def k0_off50 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_252 : BitVec 32 := 8#32
  let v544 : BitVec 32 := Scalar.muli arg22 c8_i32_252
  let c5_i32 : BitVec 32 := 5#32
  let v545 : BitVec 32 := Scalar.addi v544 c5_i32
  let v555 : Index := Scalar.indexCast v545
  let c0_256 : Index := 0#32
  ![v555.toNat, 0]
def k0_off51 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v568 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_259 : BitVec 32 := 512#32
  let v566 : BitVec 32 := Scalar.muli v442 c512_i32_259
  let c0_i32_214 : BitVec 32 := 0#32
  let c1_i32_216 : BitVec 32 := 1#32
  let arg22 : BitVec 32 := Scf.iv c0_i32_214 c1_i32_216 k0_t3
  let c8_i32_258 : BitVec 32 := 8#32
  let v564 : BitVec 32 := Scalar.muli arg22 c8_i32_258
  let c6_i32 : BitVec 32 := 6#32
  let v565 : BitVec 32 := Scalar.addi v564 c6_i32
  let v567 : BitVec 32 := Scalar.addi v566 v565
  let v569 : Index := Scalar.indexCast v567
  ![v568.toNat, v569.toNat]
def k0_off52 (v570 : BitVec 32) : Fin 2 → Nat :=
  let c8_i32_260 : BitVec 32 := 8#32
  let v571 : BitVec 32 := Scalar.addi v570 c8_i32_260
  let v572 : Index := Scalar.indexCast v571
  let c0_261 : Index := 0#32
  ![v572.toNat, 0]

def k0_chk15 (v570 : BitVec 32) : Prop :=
  (∀ a, (k0_off52 v570) a + S1x128.size a ≤ S1112x128.size a)
theorem k0_off52_inb : ∀ (v570 : BitVec 32) (k0_hw15 : k0_chk15 v570), ∀ a, (k0_off52 v570) a + S1x128.size a ≤ S1112x128.size a := fun v570 k0_hw15 => k0_hw15

def k0_off53 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_258 : BitVec 32 := 8#32
  let v564 : BitVec 32 := Scalar.muli arg22 c8_i32_258
  let c6_i32 : BitVec 32 := 6#32
  let v565 : BitVec 32 := Scalar.addi v564 c6_i32
  let v575 : Index := Scalar.indexCast v565
  let c0_262 : Index := 0#32
  ![v575.toNat, 0]
def k0_off54 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v588 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_266 : BitVec 32 := 512#32
  let v586 : BitVec 32 := Scalar.muli v442 c512_i32_266
  let c0_i32_214 : BitVec 32 := 0#32
  let c1_i32_216 : BitVec 32 := 1#32
  let arg22 : BitVec 32 := Scf.iv c0_i32_214 c1_i32_216 k0_t3
  let c8_i32_264 : BitVec 32 := 8#32
  let v584 : BitVec 32 := Scalar.muli arg22 c8_i32_264
  let c7_i32_265 : BitVec 32 := 7#32
  let v585 : BitVec 32 := Scalar.addi v584 c7_i32_265
  let v587 : BitVec 32 := Scalar.addi v586 v585
  let v589 : Index := Scalar.indexCast v587
  ![v588.toNat, v589.toNat]
def k0_off55 (v590 : BitVec 32) : Fin 2 → Nat :=
  let c8_i32_267 : BitVec 32 := 8#32
  let v591 : BitVec 32 := Scalar.addi v590 c8_i32_267
  let v592 : Index := Scalar.indexCast v591
  let c0_268 : Index := 0#32
  ![v592.toNat, 0]

def k0_chk16 (v590 : BitVec 32) : Prop :=
  (∀ a, (k0_off55 v590) a + S1x128.size a ≤ S1112x128.size a)
theorem k0_off55_inb : ∀ (v590 : BitVec 32) (k0_hw16 : k0_chk16 v590), ∀ a, (k0_off55 v590) a + S1x128.size a ≤ S1112x128.size a := fun v590 k0_hw16 => k0_hw16

def k0_off56 (k0_t3 : Fin k0_t3_loop.trips) : Fin 2 → Nat :=
  let c0_i32_214 : BitVec 32 := 0#32
  let c1_i32_216 : BitVec 32 := 1#32
  let arg22 : BitVec 32 := Scf.iv c0_i32_214 c1_i32_216 k0_t3
  let c8_i32_264 : BitVec 32 := 8#32
  let v584 : BitVec 32 := Scalar.muli arg22 c8_i32_264
  let c7_i32_265 : BitVec 32 := 7#32
  let v585 : BitVec 32 := Scalar.addi v584 c7_i32_265
  let v595 : Index := Scalar.indexCast v585
  let c0_269 : Index := 0#32
  ![v595.toNat, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1152x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1100x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1100 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S24x4096x1152 : Shape := ⟨3, ![24, 4096, 1152]⟩
abbrev S24x4096 : Shape := ⟨2, ![24, 4096]⟩
abbrev S1152x256 : Shape := ⟨2, ![1152, 256]⟩
abbrev S256 : Shape := ⟨1, ![256]⟩
abbrev S1x256 : Shape := ⟨2, ![1, 256]⟩
abbrev S24x1100x256 : Shape := ⟨3, ![24, 1100, 256]⟩
abbrev S24x1100 : Shape := ⟨2, ![24, 1100]⟩
abbrev S24x4096x256 : Shape := ⟨3, ![24, 4096, 256]⟩
abbrev S8x4096 : Shape := ⟨2, ![8, 4096]⟩
abbrev S1x4096x1152 : Shape := ⟨3, ![1, 4096, 1152]⟩
abbrev S1x1100x256 : Shape := ⟨3, ![1, 1100, 256]⟩
abbrev S8x1100 : Shape := ⟨2, ![8, 1100]⟩
abbrev S1x4096x256 : Shape := ⟨3, ![1, 4096, 256]⟩
abbrev S512x128 : Shape := ⟨2, ![512, 128]⟩
abbrev S512x2x128 : Shape := ⟨3, ![512, 2, 128]⟩
abbrev S512x1x128 : Shape := ⟨3, ![512, 1, 128]⟩
abbrev S1112x128 : Shape := ⟨2, ![1112, 128]⟩
abbrev S1112x2x128 : Shape := ⟨3, ![1112, 2, 128]⟩
abbrev S1112x1x128 : Shape := ⟨3, ![1112, 1, 128]⟩
abbrev S1x512x1152 : Shape := ⟨3, ![1, 512, 1152]⟩
abbrev S512x1152 : Shape := ⟨2, ![512, 1152]⟩
abbrev S512x256 : Shape := ⟨2, ![512, 256]⟩
abbrev S8x128 : Shape := ⟨2, ![8, 128]⟩
abbrev S1x128 : Shape := ⟨2, ![1, 128]⟩
abbrev S128x128 : Shape := ⟨2, ![128, 128]⟩
abbrev S1x512x128 : Shape := ⟨3, ![1, 512, 128]⟩
abbrev S1x1 : Shape := ⟨2, ![1, 1]⟩
abbrev S1x2x128 : Shape := ⟨3, ![1, 2, 128]⟩
abbrev S1x1x128 : Shape := ⟨3, ![1, 1, 128]⟩
abbrev S2x128 : Shape := ⟨2, ![2, 128]⟩
abbrev S1104x128 : Shape := ⟨2, ![1104, 128]⟩
abbrev S1104x2x128 : Shape := ⟨3, ![1104, 2, 128]⟩
abbrev S1104x1x128 : Shape := ⟨3, ![1104, 1, 128]⟩
abbrev S2208x128 : Shape := ⟨2, ![2208, 128]⟩
abbrev S1100x128 : Shape := ⟨2, ![1100, 128]⟩
abbrev S1x1100x128 : Shape := ⟨3, ![1, 1100, 128]⟩
abbrev S1x4096 : Shape := ⟨2, ![1, 4096]⟩
abbrev S16x4096 : Shape := ⟨2, ![16, 4096]⟩
abbrev S128x4096 : Shape := ⟨2, ![128, 4096]⟩
abbrev S16x128 : Shape := ⟨2, ![16, 128]⟩
abbrev S8x76 : Shape := ⟨2, ![8, 76]⟩

abbrev nBuf : Space → Nat
  | .hbm => 11
  | .vmem => 25
  | .smem => 2
  | _ => 0

abbrev bufTy : (tb : Table) → Fin (tcTables nBuf tb) → BufTy
  | .hbm, ⟨0, _⟩ => ⟨S24x4096x1152, .i8⟩
  | .hbm, ⟨1, _⟩ => ⟨S24x4096, .f32⟩
  | .hbm, ⟨2, _⟩ => ⟨S1152x256, .fp8e4m3⟩
  | .hbm, ⟨3, _⟩ => ⟨S256, .f32⟩
  | .hbm, ⟨4, _⟩ => ⟨S256, .f32⟩
  | .hbm, ⟨5, _⟩ => ⟨S24x4096, .i32⟩
  | .hbm, ⟨6, _⟩ => ⟨S1x256, .f32⟩
  | .hbm, ⟨7, _⟩ => ⟨S1x256, .f32⟩
  | .hbm, ⟨8, _⟩ => ⟨S24x1100x256, .bf16⟩
  | .hbm, ⟨9, _⟩ => ⟨S24x1100, .i32⟩
  | .hbm, ⟨10, _⟩ => ⟨S24x4096x256, .bf16⟩
  | .local _ .vmem, ⟨0, _⟩ => ⟨S1x4096x1152, .i8⟩
  | .local _ .vmem, ⟨1, _⟩ => ⟨S1x4096x1152, .i8⟩
  | .local _ .vmem, ⟨2, _⟩ => ⟨S8x4096, .f32⟩
  | .local _ .vmem, ⟨3, _⟩ => ⟨S8x4096, .f32⟩
  | .local _ .vmem, ⟨4, _⟩ => ⟨S8x4096, .i32⟩
  | .local _ .vmem, ⟨5, _⟩ => ⟨S8x4096, .i32⟩
  | .local _ .vmem, ⟨6, _⟩ => ⟨S1152x256, .fp8e4m3⟩
  | .local _ .vmem, ⟨7, _⟩ => ⟨S1x256, .f32⟩
  | .local _ .vmem, ⟨8, _⟩ => ⟨S1x256, .f32⟩
  | .local _ .vmem, ⟨9, _⟩ => ⟨S1x1100x256, .bf16⟩
  | .local _ .vmem, ⟨10, _⟩ => ⟨S1x1100x256, .bf16⟩
  | .local _ .vmem, ⟨11, _⟩ => ⟨S8x1100, .i32⟩
  | .local _ .vmem, ⟨12, _⟩ => ⟨S8x1100, .i32⟩
  | .local _ .vmem, ⟨13, _⟩ => ⟨S1x4096x256, .bf16⟩
  | .local _ .vmem, ⟨14, _⟩ => ⟨S1x4096x256, .bf16⟩
  | .local _ .vmem, ⟨15, _⟩ => ⟨S512x2x128, .bf16⟩
  | .local _ .vmem, ⟨16, _⟩ => ⟨S512x2x128, .bf16⟩
  | .local _ .vmem, ⟨17, _⟩ => ⟨S1112x2x128, .bf16⟩
  | .local _ .vmem, ⟨18, _⟩ => ⟨S1112x2x128, .bf16⟩
  | .local _ .vmem, ⟨19, _⟩ => ⟨S1112x2x128, .bf16⟩
  | .local _ .vmem, ⟨20, _⟩ => ⟨S1112x2x128, .bf16⟩
  | .local _ .vmem, ⟨21, _⟩ => ⟨S1112x2x128, .bf16⟩
  | .local _ .vmem, ⟨22, _⟩ => ⟨S1112x2x128, .bf16⟩
  | .local _ .vmem, ⟨23, _⟩ => ⟨S1112x2x128, .bf16⟩
  | .local _ .vmem, ⟨24, _⟩ => ⟨S1112x2x128, .bf16⟩
  | .local _ .smem, ⟨0, _⟩ => ⟨S8x4096, .i32⟩
  | .local _ .smem, ⟨1, _⟩ => ⟨S8x4096, .i32⟩
  | _, _ => ⟨S24x4096x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_75 : BitVec 32 := 0#32
  let c4_i32 : BitVec 32 := 4#32
  let v145 : BitVec 32 := Scalar.addi c0_i32_75 c4_i32
  let c1_i32_76 : BitVec 32 := 1#32
  ⟨c0_i32_75, v145, c1_i32_76⟩
def k0_off1 (k0_t1 : Fin k0_t1_loop.trips) : Fin 3 → Nat :=
  let c0_147 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32 : BitVec 32 := 512#32
  let v309 : BitVec 32 := Scalar.muli v308 c512_i32
  let v310 : Index := Scalar.indexCast v309
  let c0_148 : Index := 0#32
  ![0, v310.toNat, 0]
def k0_off2 (k0_t1 : Fin k0_t1_loop.trips) (c0_i32_153 : BitVec 32) : Fin 2 → Nat :=
  let c0_154 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_152 : BitVec 32 := 512#32
  let v316 : BitVec 32 := Scalar.muli v308 c512_i32_152
  let v317 : BitVec 32 := Scalar.addi v316 c0_i32_153
  let v318 : Index := Scalar.indexCast v317
  ![0, v318.toNat]
def k0_off3 (k0_t1 : Fin k0_t1_loop.trips) : Fin 3 → Nat :=
  let c0_200 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_199 : BitVec 32 := 512#32
  let v422 : BitVec 32 := Scalar.muli v308 c512_i32_199
  let v423 : Index := Scalar.indexCast v422
  let c0_201 : Index := 0#32
  ![0, v423.toNat, 0]
def k0_off4 (k0_t1 : Fin k0_t1_loop.trips) : Fin 3 → Nat :=
  let c0_203 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_146 : BitVec 32 := 1#32
  let v308 : BitVec 32 := Scalar.addi v307 c1_i32_146
  let c512_i32_202 : BitVec 32 := 512#32
  let v428 : BitVec 32 := Scalar.muli v308 c512_i32_202
  let v429 : Index := Scalar.indexCast v428
  let c128_204 : Index := 128#32
  ![0, v429.toNat, 128]
@[reducible] def k0_t2_loop : Scf.Loop 32 :=
  let c0_i32_207 : BitVec 32 := 0#32
  let c64_i32 : BitVec 32 := 64#32
  let v437 : BitVec 32 := Scalar.addi c0_i32_207 c64_i32
  let c1_i32_208 : BitVec 32 := 1#32
  ⟨c0_i32_207, v437, c1_i32_208⟩
def k0_off5 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v448 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_220 : BitVec 32 := 512#32
  let v446 : BitVec 32 := Scalar.muli v307 c512_i32_220
  let c0_i32_207 : BitVec 32 := 0#32
  let c1_i32_208 : BitVec 32 := 1#32
  let arg22 : BitVec 32 := Scf.iv c0_i32_207 c1_i32_208 k0_t2
  let c8_i32_218 : BitVec 32 := 8#32
  let v444 : BitVec 32 := Scalar.muli arg22 c8_i32_218
  let c0_i32_219 : BitVec 32 := 0#32
  let v445 : BitVec 32 := Scalar.addi v444 c0_i32_219
  let v447 : BitVec 32 := Scalar.addi v446 v445
  let v449 : Index := Scalar.indexCast v447
  ![v448.toNat, v449.toNat]
def k0_off6 (v450 : BitVec 32) : Fin 3 → Nat :=
  let c8_i32_221 : BitVec 32 := 8#32
  let v451 : BitVec 32 := Scalar.addi v450 c8_i32_221
  let v452 : Index := Scalar.indexCast v451
  let c0_222 : Index := 0#32
  ![v452.toNat, 0, 0]

def k0_chk1 (v450 : BitVec 32) : Prop :=
  (∀ a, (k0_off6 v450) a + S1x2x128.size a ≤ S1112x2x128.size a)
theorem k0_off6_inb : ∀ (v450 : BitVec 32) (k0_hw1 : k0_chk1 v450), ∀ a, (k0_off6 v450) a + S1x2x128.size a ≤ S1112x2x128.size a := fun v450 k0_hw1 => k0_hw1

def k0_off7 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_218 : BitVec 32 := 8#32
  let v444 : BitVec 32 := Scalar.muli arg22 c8_i32_218
  let c0_i32_219 : BitVec 32 := 0#32
  let v445 : BitVec 32 := Scalar.addi v444 c0_i32_219
  let v455 : Index := Scalar.indexCast v445
  let c0_223 : Index := 0#32
  ![v455.toNat, 0, 0]
def k0_off8 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v468 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_227 : BitVec 32 := 512#32
  let v466 : BitVec 32 := Scalar.muli v307 c512_i32_227
  let c0_i32_207 : BitVec 32 := 0#32
  let c1_i32_208 : BitVec 32 := 1#32
  let arg22 : BitVec 32 := Scf.iv c0_i32_207 c1_i32_208 k0_t2
  let c8_i32_225 : BitVec 32 := 8#32
  let v464 : BitVec 32 := Scalar.muli arg22 c8_i32_225
  let c1_i32_226 : BitVec 32 := 1#32
  let v465 : BitVec 32 := Scalar.addi v464 c1_i32_226
  let v467 : BitVec 32 := Scalar.addi v466 v465
  let v469 : Index := Scalar.indexCast v467
  ![v468.toNat, v469.toNat]
def k0_off9 (v470 : BitVec 32) : Fin 3 → Nat :=
  let c8_i32_228 : BitVec 32 := 8#32
  let v471 : BitVec 32 := Scalar.addi v470 c8_i32_228
  let v472 : Index := Scalar.indexCast v471
  let c0_229 : Index := 0#32
  ![v472.toNat, 0, 0]

def k0_chk2 (v470 : BitVec 32) : Prop :=
  (∀ a, (k0_off9 v470) a + S1x2x128.size a ≤ S1112x2x128.size a)
theorem k0_off9_inb : ∀ (v470 : BitVec 32) (k0_hw2 : k0_chk2 v470), ∀ a, (k0_off9 v470) a + S1x2x128.size a ≤ S1112x2x128.size a := fun v470 k0_hw2 => k0_hw2

def k0_off10 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_225 : BitVec 32 := 8#32
  let v464 : BitVec 32 := Scalar.muli arg22 c8_i32_225
  let c1_i32_226 : BitVec 32 := 1#32
  let v465 : BitVec 32 := Scalar.addi v464 c1_i32_226
  let v475 : Index := Scalar.indexCast v465
  let c0_230 : Index := 0#32
  ![v475.toNat, 0, 0]
def k0_off11 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_234 : BitVec 32 := 512#32
  let v486 : BitVec 32 := Scalar.muli v307 c512_i32_234
  let c0_i32_207 : BitVec 32 := 0#32
  let c1_i32_208 : BitVec 32 := 1#32
  let arg22 : BitVec 32 := Scf.iv c0_i32_207 c1_i32_208 k0_t2
  let c8_i32_232 : BitVec 32 := 8#32
  let v484 : BitVec 32 := Scalar.muli arg22 c8_i32_232
  let c2_i32_233 : BitVec 32 := 2#32
  let v485 : BitVec 32 := Scalar.addi v484 c2_i32_233
  let v487 : BitVec 32 := Scalar.addi v486 v485
  let v489 : Index := Scalar.indexCast v487
  ![v488.toNat, v489.toNat]
def k0_off12 (v490 : BitVec 32) : Fin 3 → Nat :=
  let c8_i32_235 : BitVec 32 := 8#32
  let v491 : BitVec 32 := Scalar.addi v490 c8_i32_235
  let v492 : Index := Scalar.indexCast v491
  let c0_236 : Index := 0#32
  ![v492.toNat, 0, 0]

def k0_chk3 (v490 : BitVec 32) : Prop :=
  (∀ a, (k0_off12 v490) a + S1x2x128.size a ≤ S1112x2x128.size a)
theorem k0_off12_inb : ∀ (v490 : BitVec 32) (k0_hw3 : k0_chk3 v490), ∀ a, (k0_off12 v490) a + S1x2x128.size a ≤ S1112x2x128.size a := fun v490 k0_hw3 => k0_hw3

def k0_off13 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_232 : BitVec 32 := 8#32
  let v484 : BitVec 32 := Scalar.muli arg22 c8_i32_232
  let c2_i32_233 : BitVec 32 := 2#32
  let v485 : BitVec 32 := Scalar.addi v484 c2_i32_233
  let v495 : Index := Scalar.indexCast v485
  let c0_237 : Index := 0#32
  ![v495.toNat, 0, 0]
def k0_off14 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v508 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_240 : BitVec 32 := 512#32
  let v506 : BitVec 32 := Scalar.muli v307 c512_i32_240
  let c0_i32_207 : BitVec 32 := 0#32
  let c1_i32_208 : BitVec 32 := 1#32
  let arg22 : BitVec 32 := Scf.iv c0_i32_207 c1_i32_208 k0_t2
  let c8_i32_239 : BitVec 32 := 8#32
  let v504 : BitVec 32 := Scalar.muli arg22 c8_i32_239
  let c3_i32 : BitVec 32 := 3#32
  let v505 : BitVec 32 := Scalar.addi v504 c3_i32
  let v507 : BitVec 32 := Scalar.addi v506 v505
  let v509 : Index := Scalar.indexCast v507
  ![v508.toNat, v509.toNat]
def k0_off15 (v510 : BitVec 32) : Fin 3 → Nat :=
  let c8_i32_241 : BitVec 32 := 8#32
  let v511 : BitVec 32 := Scalar.addi v510 c8_i32_241
  let v512 : Index := Scalar.indexCast v511
  let c0_242 : Index := 0#32
  ![v512.toNat, 0, 0]

def k0_chk4 (v510 : BitVec 32) : Prop :=
  (∀ a, (k0_off15 v510) a + S1x2x128.size a ≤ S1112x2x128.size a)
theorem k0_off15_inb : ∀ (v510 : BitVec 32) (k0_hw4 : k0_chk4 v510), ∀ a, (k0_off15 v510) a + S1x2x128.size a ≤ S1112x2x128.size a := fun v510 k0_hw4 => k0_hw4

def k0_off16 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_239 : BitVec 32 := 8#32
  let v504 : BitVec 32 := Scalar.muli arg22 c8_i32_239
  let c3_i32 : BitVec 32 := 3#32
  let v505 : BitVec 32 := Scalar.addi v504 c3_i32
  let v515 : Index := Scalar.indexCast v505
  let c0_243 : Index := 0#32
  ![v515.toNat, 0, 0]
def k0_off17 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_247 : BitVec 32 := 512#32
  let v526 : BitVec 32 := Scalar.muli v307 c512_i32_247
  let c0_i32_207 : BitVec 32 := 0#32
  let c1_i32_208 : BitVec 32 := 1#32
  let arg22 : BitVec 32 := Scf.iv c0_i32_207 c1_i32_208 k0_t2
  let c8_i32_245 : BitVec 32 := 8#32
  let v524 : BitVec 32 := Scalar.muli arg22 c8_i32_245
  let c4_i32_246 : BitVec 32 := 4#32
  let v525 : BitVec 32 := Scalar.addi v524 c4_i32_246
  let v527 : BitVec 32 := Scalar.addi v526 v525
  let v529 : Index := Scalar.indexCast v527
  ![v528.toNat, v529.toNat]
def k0_off18 (v530 : BitVec 32) : Fin 3 → Nat :=
  let c8_i32_248 : BitVec 32 := 8#32
  let v531 : BitVec 32 := Scalar.addi v530 c8_i32_248
  let v532 : Index := Scalar.indexCast v531
  let c0_249 : Index := 0#32
  ![v532.toNat, 0, 0]

def k0_chk5 (v530 : BitVec 32) : Prop :=
  (∀ a, (k0_off18 v530) a + S1x2x128.size a ≤ S1112x2x128.size a)
theorem k0_off18_inb : ∀ (v530 : BitVec 32) (k0_hw5 : k0_chk5 v530), ∀ a, (k0_off18 v530) a + S1x2x128.size a ≤ S1112x2x128.size a := fun v530 k0_hw5 => k0_hw5

def k0_off19 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_245 : BitVec 32 := 8#32
  let v524 : BitVec 32 := Scalar.muli arg22 c8_i32_245
  let c4_i32_246 : BitVec 32 := 4#32
  let v525 : BitVec 32 := Scalar.addi v524 c4_i32_246
  let v535 : Index := Scalar.indexCast v525
  let c0_250 : Index := 0#32
  ![v535.toNat, 0, 0]
def k0_off20 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_253 : BitVec 32 := 512#32
  let v546 : BitVec 32 := Scalar.muli v307 c512_i32_253
  let c0_i32_207 : BitVec 32 := 0#32
  let c1_i32_208 : BitVec 32 := 1#32
  let arg22 : BitVec 32 := Scf.iv c0_i32_207 c1_i32_208 k0_t2
  let c8_i32_252 : BitVec 32 := 8#32
  let v544 : BitVec 32 := Scalar.muli arg22 c8_i32_252
  let c5_i32 : BitVec 32 := 5#32
  let v545 : BitVec 32 := Scalar.addi v544 c5_i32
  let v547 : BitVec 32 := Scalar.addi v546 v545
  let v549 : Index := Scalar.indexCast v547
  ![v548.toNat, v549.toNat]
def k0_off21 (v550 : BitVec 32) : Fin 3 → Nat :=
  let c8_i32_254 : BitVec 32 := 8#32
  let v551 : BitVec 32 := Scalar.addi v550 c8_i32_254
  let v552 : Index := Scalar.indexCast v551
  let c0_255 : Index := 0#32
  ![v552.toNat, 0, 0]

def k0_chk6 (v550 : BitVec 32) : Prop :=
  (∀ a, (k0_off21 v550) a + S1x2x128.size a ≤ S1112x2x128.size a)
theorem k0_off21_inb : ∀ (v550 : BitVec 32) (k0_hw6 : k0_chk6 v550), ∀ a, (k0_off21 v550) a + S1x2x128.size a ≤ S1112x2x128.size a := fun v550 k0_hw6 => k0_hw6

def k0_off22 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_252 : BitVec 32 := 8#32
  let v544 : BitVec 32 := Scalar.muli arg22 c8_i32_252
  let c5_i32 : BitVec 32 := 5#32
  let v545 : BitVec 32 := Scalar.addi v544 c5_i32
  let v555 : Index := Scalar.indexCast v545
  let c0_256 : Index := 0#32
  ![v555.toNat, 0, 0]
def k0_off23 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v568 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_259 : BitVec 32 := 512#32
  let v566 : BitVec 32 := Scalar.muli v307 c512_i32_259
  let c0_i32_207 : BitVec 32 := 0#32
  let c1_i32_208 : BitVec 32 := 1#32
  let arg22 : BitVec 32 := Scf.iv c0_i32_207 c1_i32_208 k0_t2
  let c8_i32_258 : BitVec 32 := 8#32
  let v564 : BitVec 32 := Scalar.muli arg22 c8_i32_258
  let c6_i32 : BitVec 32 := 6#32
  let v565 : BitVec 32 := Scalar.addi v564 c6_i32
  let v567 : BitVec 32 := Scalar.addi v566 v565
  let v569 : Index := Scalar.indexCast v567
  ![v568.toNat, v569.toNat]
def k0_off24 (v570 : BitVec 32) : Fin 3 → Nat :=
  let c8_i32_260 : BitVec 32 := 8#32
  let v571 : BitVec 32 := Scalar.addi v570 c8_i32_260
  let v572 : Index := Scalar.indexCast v571
  let c0_261 : Index := 0#32
  ![v572.toNat, 0, 0]

def k0_chk7 (v570 : BitVec 32) : Prop :=
  (∀ a, (k0_off24 v570) a + S1x2x128.size a ≤ S1112x2x128.size a)
theorem k0_off24_inb : ∀ (v570 : BitVec 32) (k0_hw7 : k0_chk7 v570), ∀ a, (k0_off24 v570) a + S1x2x128.size a ≤ S1112x2x128.size a := fun v570 k0_hw7 => k0_hw7

def k0_off25 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_258 : BitVec 32 := 8#32
  let v564 : BitVec 32 := Scalar.muli arg22 c8_i32_258
  let c6_i32 : BitVec 32 := 6#32
  let v565 : BitVec 32 := Scalar.addi v564 c6_i32
  let v575 : Index := Scalar.indexCast v565
  let c0_262 : Index := 0#32
  ![v575.toNat, 0, 0]
def k0_off26 (i : grid0.Coords) (k0_t1 : Fin k0_t1_loop.trips) (k0_t2 : Fin k0_t2_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v588 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c512_i32_266 : BitVec 32 := 512#32
  let v586 : BitVec 32 := Scalar.muli v307 c512_i32_266
  let c0_i32_207 : BitVec 32 := 0#32
  let c1_i32_208 : BitVec 32 := 1#32
  let arg22 : BitVec 32 := Scf.iv c0_i32_207 c1_i32_208 k0_t2
  let c8_i32_264 : BitVec 32 := 8#32
  let v584 : BitVec 32 := Scalar.muli arg22 c8_i32_264
  let c7_i32_265 : BitVec 32 := 7#32
  let v585 : BitVec 32 := Scalar.addi v584 c7_i32_265
  let v587 : BitVec 32 := Scalar.addi v586 v585
  let v589 : Index := Scalar.indexCast v587
  ![v588.toNat, v589.toNat]
def k0_off27 (v590 : BitVec 32) : Fin 3 → Nat :=
  let c8_i32_267 : BitVec 32 := 8#32
  let v591 : BitVec 32 := Scalar.addi v590 c8_i32_267
  let v592 : Index := Scalar.indexCast v591
  let c0_268 : Index := 0#32
  ![v592.toNat, 0, 0]

def k0_chk8 (v590 : BitVec 32) : Prop :=
  (∀ a, (k0_off27 v590) a + S1x2x128.size a ≤ S1112x2x128.size a)
theorem k0_off27_inb : ∀ (v590 : BitVec 32) (k0_hw8 : k0_chk8 v590), ∀ a, (k0_off27 v590) a + S1x2x128.size a ≤ S1112x2x128.size a := fun v590 k0_hw8 => k0_hw8

def k0_off28 (k0_t2 : Fin k0_t2_loop.trips) : Fin 3 → Nat :=
  let c0_i32_207 : BitVec 32 := 0#32
  let c1_i32_208 : BitVec 32 := 1#32
  let arg22 : BitVec 32 := Scf.iv c0_i32_207 c1_i32_208 k0_t2
  let c8_i32_264 : BitVec 32 := 8#32
  let v584 : BitVec 32 := Scalar.muli arg22 c8_i32_264
  let c7_i32_265 : BitVec 32 := 7#32
  let v585 : BitVec 32 := Scalar.addi v584 c7_i32_265
  let v595 : Index := Scalar.indexCast v585
  let c0_269 : Index := 0#32
  ![v595.toNat, 0, 0]
def k0_cond1 (k0_t1 : Fin k0_t1_loop.trips) : BitVec 1 :=
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_210 : BitVec 32 := 2#32
  let v438 : BitVec 32 := Scalar.addi v307 c2_i32_210
  let c8_i32_211 : BitVec 32 := 8#32
  let v439 : BitVec 1 := Scalar.cmpi .slt v438 c8_i32_211
  let v440 : BitVec 32 := Scalar.extui v439
  let c0_i32_212 : BitVec 32 := 0#32
  let v441 : BitVec 1 := Scalar.cmpi .ne v440 c0_i32_212
  v441

def k0_off29 (k0_t1 : Fin k0_t1_loop.trips) : Fin 3 → Nat :=
  let c0_220 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_219 : BitVec 32 := 512#32
  let v445 : BitVec 32 := Scalar.muli v444 c512_i32_219
  let v446 : Index := Scalar.indexCast v445
  let c0_221 : Index := 0#32
  ![0, v446.toNat, 0]
def k0_off30 (k0_t1 : Fin k0_t1_loop.trips) (c0_i32_226 : BitVec 32) : Fin 2 → Nat :=
  let c0_227 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_225 : BitVec 32 := 512#32
  let v452 : BitVec 32 := Scalar.muli v444 c512_i32_225
  let v453 : BitVec 32 := Scalar.addi v452 c0_i32_226
  let v454 : Index := Scalar.indexCast v453
  ![0, v454.toNat]
def k0_off31 (k0_t1 : Fin k0_t1_loop.trips) : Fin 3 → Nat :=
  let c0_276 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_275 : BitVec 32 := 512#32
  let v558 : BitVec 32 := Scalar.muli v444 c512_i32_275
  let v559 : Index := Scalar.indexCast v558
  let c0_277 : Index := 0#32
  ![0, v559.toNat, 0]
def k0_off32 (k0_t1 : Fin k0_t1_loop.trips) : Fin 3 → Nat :=
  let c0_279 : Index := 0#32
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c2_i32_218 : BitVec 32 := 2#32
  let v444 : BitVec 32 := Scalar.addi v307 c2_i32_218
  let c512_i32_278 : BitVec 32 := 512#32
  let v564 : BitVec 32 := Scalar.muli v444 c512_i32_278
  let v565 : Index := Scalar.indexCast v564
  let c128_280 : Index := 128#32
  ![0, v565.toNat, 128]
@[reducible] def k0_t3_loop : Scf.Loop 32 :=
  let c0_i32_214 : BitVec 32 := 0#32
  let c64_i32_215 : BitVec 32 := 64#32
  let v443 : BitVec 32 := Scalar.addi c0_i32_214 c64_i32_215
  let c1_i32_216 : BitVec 32 := 1#32
  ⟨c0_i32_214, v443, c1_i32_216⟩
def k0_off33 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v448 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_220 : BitVec 32 := 512#32
  let v446 : BitVec 32 := Scalar.muli v442 c512_i32_220
  let c0_i32_214 : BitVec 32 := 0#32
  let c1_i32_216 : BitVec 32 := 1#32
  let arg22 : BitVec 32 := Scf.iv c0_i32_214 c1_i32_216 k0_t3
  let c8_i32_218 : BitVec 32 := 8#32
  let v444 : BitVec 32 := Scalar.muli arg22 c8_i32_218
  let c0_i32_219 : BitVec 32 := 0#32
  let v445 : BitVec 32 := Scalar.addi v444 c0_i32_219
  let v447 : BitVec 32 := Scalar.addi v446 v445
  let v449 : Index := Scalar.indexCast v447
  ![v448.toNat, v449.toNat]
def k0_off34 (v450 : BitVec 32) : Fin 3 → Nat :=
  let c8_i32_221 : BitVec 32 := 8#32
  let v451 : BitVec 32 := Scalar.addi v450 c8_i32_221
  let v452 : Index := Scalar.indexCast v451
  let c0_222 : Index := 0#32
  ![v452.toNat, 0, 0]

def k0_chk9 (v450 : BitVec 32) : Prop :=
  (∀ a, (k0_off34 v450) a + S1x2x128.size a ≤ S1112x2x128.size a)
theorem k0_off34_inb : ∀ (v450 : BitVec 32) (k0_hw9 : k0_chk9 v450), ∀ a, (k0_off34 v450) a + S1x2x128.size a ≤ S1112x2x128.size a := fun v450 k0_hw9 => k0_hw9

def k0_off35 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_218 : BitVec 32 := 8#32
  let v444 : BitVec 32 := Scalar.muli arg22 c8_i32_218
  let c0_i32_219 : BitVec 32 := 0#32
  let v445 : BitVec 32 := Scalar.addi v444 c0_i32_219
  let v455 : Index := Scalar.indexCast v445
  let c0_223 : Index := 0#32
  ![v455.toNat, 0, 0]
def k0_off36 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v468 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_227 : BitVec 32 := 512#32
  let v466 : BitVec 32 := Scalar.muli v442 c512_i32_227
  let c0_i32_214 : BitVec 32 := 0#32
  let c1_i32_216 : BitVec 32 := 1#32
  let arg22 : BitVec 32 := Scf.iv c0_i32_214 c1_i32_216 k0_t3
  let c8_i32_225 : BitVec 32 := 8#32
  let v464 : BitVec 32 := Scalar.muli arg22 c8_i32_225
  let c1_i32_226 : BitVec 32 := 1#32
  let v465 : BitVec 32 := Scalar.addi v464 c1_i32_226
  let v467 : BitVec 32 := Scalar.addi v466 v465
  let v469 : Index := Scalar.indexCast v467
  ![v468.toNat, v469.toNat]
def k0_off37 (v470 : BitVec 32) : Fin 3 → Nat :=
  let c8_i32_228 : BitVec 32 := 8#32
  let v471 : BitVec 32 := Scalar.addi v470 c8_i32_228
  let v472 : Index := Scalar.indexCast v471
  let c0_229 : Index := 0#32
  ![v472.toNat, 0, 0]

def k0_chk10 (v470 : BitVec 32) : Prop :=
  (∀ a, (k0_off37 v470) a + S1x2x128.size a ≤ S1112x2x128.size a)
theorem k0_off37_inb : ∀ (v470 : BitVec 32) (k0_hw10 : k0_chk10 v470), ∀ a, (k0_off37 v470) a + S1x2x128.size a ≤ S1112x2x128.size a := fun v470 k0_hw10 => k0_hw10

def k0_off38 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_225 : BitVec 32 := 8#32
  let v464 : BitVec 32 := Scalar.muli arg22 c8_i32_225
  let c1_i32_226 : BitVec 32 := 1#32
  let v465 : BitVec 32 := Scalar.addi v464 c1_i32_226
  let v475 : Index := Scalar.indexCast v465
  let c0_230 : Index := 0#32
  ![v475.toNat, 0, 0]
def k0_off39 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_234 : BitVec 32 := 512#32
  let v486 : BitVec 32 := Scalar.muli v442 c512_i32_234
  let c0_i32_214 : BitVec 32 := 0#32
  let c1_i32_216 : BitVec 32 := 1#32
  let arg22 : BitVec 32 := Scf.iv c0_i32_214 c1_i32_216 k0_t3
  let c8_i32_232 : BitVec 32 := 8#32
  let v484 : BitVec 32 := Scalar.muli arg22 c8_i32_232
  let c2_i32_233 : BitVec 32 := 2#32
  let v485 : BitVec 32 := Scalar.addi v484 c2_i32_233
  let v487 : BitVec 32 := Scalar.addi v486 v485
  let v489 : Index := Scalar.indexCast v487
  ![v488.toNat, v489.toNat]
def k0_off40 (v490 : BitVec 32) : Fin 3 → Nat :=
  let c8_i32_235 : BitVec 32 := 8#32
  let v491 : BitVec 32 := Scalar.addi v490 c8_i32_235
  let v492 : Index := Scalar.indexCast v491
  let c0_236 : Index := 0#32
  ![v492.toNat, 0, 0]

def k0_chk11 (v490 : BitVec 32) : Prop :=
  (∀ a, (k0_off40 v490) a + S1x2x128.size a ≤ S1112x2x128.size a)
theorem k0_off40_inb : ∀ (v490 : BitVec 32) (k0_hw11 : k0_chk11 v490), ∀ a, (k0_off40 v490) a + S1x2x128.size a ≤ S1112x2x128.size a := fun v490 k0_hw11 => k0_hw11

def k0_off41 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_232 : BitVec 32 := 8#32
  let v484 : BitVec 32 := Scalar.muli arg22 c8_i32_232
  let c2_i32_233 : BitVec 32 := 2#32
  let v485 : BitVec 32 := Scalar.addi v484 c2_i32_233
  let v495 : Index := Scalar.indexCast v485
  let c0_237 : Index := 0#32
  ![v495.toNat, 0, 0]
def k0_off42 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v508 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_240 : BitVec 32 := 512#32
  let v506 : BitVec 32 := Scalar.muli v442 c512_i32_240
  let c0_i32_214 : BitVec 32 := 0#32
  let c1_i32_216 : BitVec 32 := 1#32
  let arg22 : BitVec 32 := Scf.iv c0_i32_214 c1_i32_216 k0_t3
  let c8_i32_239 : BitVec 32 := 8#32
  let v504 : BitVec 32 := Scalar.muli arg22 c8_i32_239
  let c3_i32 : BitVec 32 := 3#32
  let v505 : BitVec 32 := Scalar.addi v504 c3_i32
  let v507 : BitVec 32 := Scalar.addi v506 v505
  let v509 : Index := Scalar.indexCast v507
  ![v508.toNat, v509.toNat]
def k0_off43 (v510 : BitVec 32) : Fin 3 → Nat :=
  let c8_i32_241 : BitVec 32 := 8#32
  let v511 : BitVec 32 := Scalar.addi v510 c8_i32_241
  let v512 : Index := Scalar.indexCast v511
  let c0_242 : Index := 0#32
  ![v512.toNat, 0, 0]

def k0_chk12 (v510 : BitVec 32) : Prop :=
  (∀ a, (k0_off43 v510) a + S1x2x128.size a ≤ S1112x2x128.size a)
theorem k0_off43_inb : ∀ (v510 : BitVec 32) (k0_hw12 : k0_chk12 v510), ∀ a, (k0_off43 v510) a + S1x2x128.size a ≤ S1112x2x128.size a := fun v510 k0_hw12 => k0_hw12

def k0_off44 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_239 : BitVec 32 := 8#32
  let v504 : BitVec 32 := Scalar.muli arg22 c8_i32_239
  let c3_i32 : BitVec 32 := 3#32
  let v505 : BitVec 32 := Scalar.addi v504 c3_i32
  let v515 : Index := Scalar.indexCast v505
  let c0_243 : Index := 0#32
  ![v515.toNat, 0, 0]
def k0_off45 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_247 : BitVec 32 := 512#32
  let v526 : BitVec 32 := Scalar.muli v442 c512_i32_247
  let c0_i32_214 : BitVec 32 := 0#32
  let c1_i32_216 : BitVec 32 := 1#32
  let arg22 : BitVec 32 := Scf.iv c0_i32_214 c1_i32_216 k0_t3
  let c8_i32_245 : BitVec 32 := 8#32
  let v524 : BitVec 32 := Scalar.muli arg22 c8_i32_245
  let c4_i32_246 : BitVec 32 := 4#32
  let v525 : BitVec 32 := Scalar.addi v524 c4_i32_246
  let v527 : BitVec 32 := Scalar.addi v526 v525
  let v529 : Index := Scalar.indexCast v527
  ![v528.toNat, v529.toNat]
def k0_off46 (v530 : BitVec 32) : Fin 3 → Nat :=
  let c8_i32_248 : BitVec 32 := 8#32
  let v531 : BitVec 32 := Scalar.addi v530 c8_i32_248
  let v532 : Index := Scalar.indexCast v531
  let c0_249 : Index := 0#32
  ![v532.toNat, 0, 0]

def k0_chk13 (v530 : BitVec 32) : Prop :=
  (∀ a, (k0_off46 v530) a + S1x2x128.size a ≤ S1112x2x128.size a)
theorem k0_off46_inb : ∀ (v530 : BitVec 32) (k0_hw13 : k0_chk13 v530), ∀ a, (k0_off46 v530) a + S1x2x128.size a ≤ S1112x2x128.size a := fun v530 k0_hw13 => k0_hw13

def k0_off47 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_245 : BitVec 32 := 8#32
  let v524 : BitVec 32 := Scalar.muli arg22 c8_i32_245
  let c4_i32_246 : BitVec 32 := 4#32
  let v525 : BitVec 32 := Scalar.addi v524 c4_i32_246
  let v535 : Index := Scalar.indexCast v525
  let c0_250 : Index := 0#32
  ![v535.toNat, 0, 0]
def k0_off48 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_253 : BitVec 32 := 512#32
  let v546 : BitVec 32 := Scalar.muli v442 c512_i32_253
  let c0_i32_214 : BitVec 32 := 0#32
  let c1_i32_216 : BitVec 32 := 1#32
  let arg22 : BitVec 32 := Scf.iv c0_i32_214 c1_i32_216 k0_t3
  let c8_i32_252 : BitVec 32 := 8#32
  let v544 : BitVec 32 := Scalar.muli arg22 c8_i32_252
  let c5_i32 : BitVec 32 := 5#32
  let v545 : BitVec 32 := Scalar.addi v544 c5_i32
  let v547 : BitVec 32 := Scalar.addi v546 v545
  let v549 : Index := Scalar.indexCast v547
  ![v548.toNat, v549.toNat]
def k0_off49 (v550 : BitVec 32) : Fin 3 → Nat :=
  let c8_i32_254 : BitVec 32 := 8#32
  let v551 : BitVec 32 := Scalar.addi v550 c8_i32_254
  let v552 : Index := Scalar.indexCast v551
  let c0_255 : Index := 0#32
  ![v552.toNat, 0, 0]

def k0_chk14 (v550 : BitVec 32) : Prop :=
  (∀ a, (k0_off49 v550) a + S1x2x128.size a ≤ S1112x2x128.size a)
theorem k0_off49_inb : ∀ (v550 : BitVec 32) (k0_hw14 : k0_chk14 v550), ∀ a, (k0_off49 v550) a + S1x2x128.size a ≤ S1112x2x128.size a := fun v550 k0_hw14 => k0_hw14

def k0_off50 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_252 : BitVec 32 := 8#32
  let v544 : BitVec 32 := Scalar.muli arg22 c8_i32_252
  let c5_i32 : BitVec 32 := 5#32
  let v545 : BitVec 32 := Scalar.addi v544 c5_i32
  let v555 : Index := Scalar.indexCast v545
  let c0_256 : Index := 0#32
  ![v555.toNat, 0, 0]
def k0_off51 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v568 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_259 : BitVec 32 := 512#32
  let v566 : BitVec 32 := Scalar.muli v442 c512_i32_259
  let c0_i32_214 : BitVec 32 := 0#32
  let c1_i32_216 : BitVec 32 := 1#32
  let arg22 : BitVec 32 := Scf.iv c0_i32_214 c1_i32_216 k0_t3
  let c8_i32_258 : BitVec 32 := 8#32
  let v564 : BitVec 32 := Scalar.muli arg22 c8_i32_258
  let c6_i32 : BitVec 32 := 6#32
  let v565 : BitVec 32 := Scalar.addi v564 c6_i32
  let v567 : BitVec 32 := Scalar.addi v566 v565
  let v569 : Index := Scalar.indexCast v567
  ![v568.toNat, v569.toNat]
def k0_off52 (v570 : BitVec 32) : Fin 3 → Nat :=
  let c8_i32_260 : BitVec 32 := 8#32
  let v571 : BitVec 32 := Scalar.addi v570 c8_i32_260
  let v572 : Index := Scalar.indexCast v571
  let c0_261 : Index := 0#32
  ![v572.toNat, 0, 0]

def k0_chk15 (v570 : BitVec 32) : Prop :=
  (∀ a, (k0_off52 v570) a + S1x2x128.size a ≤ S1112x2x128.size a)
theorem k0_off52_inb : ∀ (v570 : BitVec 32) (k0_hw15 : k0_chk15 v570), ∀ a, (k0_off52 v570) a + S1x2x128.size a ≤ S1112x2x128.size a := fun v570 k0_hw15 => k0_hw15

def k0_off53 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_258 : BitVec 32 := 8#32
  let v564 : BitVec 32 := Scalar.muli arg22 c8_i32_258
  let c6_i32 : BitVec 32 := 6#32
  let v565 : BitVec 32 := Scalar.addi v564 c6_i32
  let v575 : Index := Scalar.indexCast v565
  let c0_262 : Index := 0#32
  ![v575.toNat, 0, 0]
def k0_off54 (i : grid0.Coords) (k0_t1 : Fin k0_t1_loop.trips) (k0_t3 : Fin k0_t3_loop.trips) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v588 : Index := Scalar.indexCast v9
  let c2_i32 : BitVec 32 := 2#32
  let c0_i32_75 : BitVec 32 := 0#32
  let c1_i32_76 : BitVec 32 := 1#32
  let arg21 : BitVec 32 := Scf.iv c0_i32_75 c1_i32_76 k0_t1
  let v307 : BitVec 32 := Scalar.muli c2_i32 arg21
  let c1_i32_213 : BitVec 32 := 1#32
  let v442 : BitVec 32 := Scalar.addi v307 c1_i32_213
  let c512_i32_266 : BitVec 32 := 512#32
  let v586 : BitVec 32 := Scalar.muli v442 c512_i32_266
  let c0_i32_214 : BitVec 32 := 0#32
  let c1_i32_216 : BitVec 32 := 1#32
  let arg22 : BitVec 32 := Scf.iv c0_i32_214 c1_i32_216 k0_t3
  let c8_i32_264 : BitVec 32 := 8#32
  let v584 : BitVec 32 := Scalar.muli arg22 c8_i32_264
  let c7_i32_265 : BitVec 32 := 7#32
  let v585 : BitVec 32 := Scalar.addi v584 c7_i32_265
  let v587 : BitVec 32 := Scalar.addi v586 v585
  let v589 : Index := Scalar.indexCast v587
  ![v588.toNat, v589.toNat]
def k0_off55 (v590 : BitVec 32) : Fin 3 → Nat :=
  let c8_i32_267 : BitVec 32 := 8#32
  let v591 : BitVec 32 := Scalar.addi v590 c8_i32_267
  let v592 : Index := Scalar.indexCast v591
  let c0_268 : Index := 0#32
  ![v592.toNat, 0, 0]

def k0_chk16 (v590 : BitVec 32) : Prop :=
  (∀ a, (k0_off55 v590) a + S1x2x128.size a ≤ S1112x2x128.size a)
theorem k0_off55_inb : ∀ (v590 : BitVec 32) (k0_hw16 : k0_chk16 v590), ∀ a, (k0_off55 v590) a + S1x2x128.size a ≤ S1112x2x128.size a := fun v590 k0_hw16 => k0_hw16

def k0_off56 (k0_t3 : Fin k0_t3_loop.trips) : Fin 3 → Nat :=
  let c0_i32_214 : BitVec 32 := 0#32
  let c1_i32_216 : BitVec 32 := 1#32
  let arg22 : BitVec 32 := Scf.iv c0_i32_214 c1_i32_216 k0_t3
  let c8_i32_264 : BitVec 32 := 8#32
  let v584 : BitVec 32 := Scalar.muli arg22 c8_i32_264
  let c7_i32_265 : BitVec 32 := 7#32
  let v585 : BitVec 32 := Scalar.addi v584 c7_i32_265
  let v595 : Index := Scalar.indexCast v585
  let c0_269 : Index := 0#32
  ![v595.toNat, 0, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1152x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1100x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1100 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S24x4096x1152 : Shape := ⟨3, ![24, 4096, 1152]⟩
abbrev S24x4096 : Shape := ⟨2, ![24, 4096]⟩
abbrev S1152x256 : Shape := ⟨2, ![1152, 256]⟩
abbrev S256 : Shape := ⟨1, ![256]⟩
abbrev S24x1100x256 : Shape := ⟨3, ![24, 1100, 256]⟩
abbrev S24x1100 : Shape := ⟨2, ![24, 1100]⟩
abbrev S24x4096x256 : Shape := ⟨3, ![24, 4096, 256]⟩
abbrev S98304x1152 : Shape := ⟨2, ![98304, 1152]⟩
abbrev S98304x256 : Shape := ⟨2, ![98304, 256]⟩
abbrev S24x4096x1 : Shape := ⟨3, ![24, 4096, 1]⟩
abbrev S1x1x256 : Shape := ⟨3, ![1, 1, 256]⟩
abbrev S24x4096x1100 : Shape := ⟨3, ![24, 4096, 1100]⟩
abbrev S24x4096x1100x1 : Shape := ⟨4, ![24, 4096, 1100, 1]⟩
abbrev S24x4096x1x256 : Shape := ⟨4, ![24, 4096, 1, 256]⟩
abbrev S24x4096x1100x256 : Shape := ⟨4, ![24, 4096, 1100, 256]⟩
abbrev S24x1100x1 : Shape := ⟨3, ![24, 1100, 1]⟩

abbrev nBuf : Space → Nat
  | .hbm => 9
  | .vmem => 9
  | .smem => 0
  | _ => 0

abbrev bufTy : (tb : Table) → Fin (tcTables nBuf tb) → BufTy
  | .hbm, ⟨0, _⟩ => ⟨S24x4096x1152, .i8⟩
  | .hbm, ⟨1, _⟩ => ⟨S24x4096, .f32⟩
  | .hbm, ⟨2, _⟩ => ⟨S1152x256, .fp8e4m3⟩
  | .hbm, ⟨3, _⟩ => ⟨S256, .f32⟩
  | .hbm, ⟨4, _⟩ => ⟨S256, .f32⟩
  | .hbm, ⟨5, _⟩ => ⟨S24x4096, .i32⟩
  | .hbm, ⟨6, _⟩ => ⟨S24x1100x256, .bf16⟩
  | .hbm, ⟨7, _⟩ => ⟨S24x1100, .i32⟩
  | .hbm, ⟨8, _⟩ => ⟨S24x4096x256, .bf16⟩
  | .local _ .vmem, ⟨0, _⟩ => ⟨S24x4096x1152, .i8⟩
  | .local _ .vmem, ⟨1, _⟩ => ⟨S24x4096, .f32⟩
  | .local _ .vmem, ⟨2, _⟩ => ⟨S1152x256, .fp8e4m3⟩
  | .local _ .vmem, ⟨3, _⟩ => ⟨S256, .f32⟩
  | .local _ .vmem, ⟨4, _⟩ => ⟨S256, .f32⟩
  | .local _ .vmem, ⟨5, _⟩ => ⟨S24x4096, .i32⟩
  | .local _ .vmem, ⟨6, _⟩ => ⟨S24x1100x256, .bf16⟩
  | .local _ .vmem, ⟨7, _⟩ => ⟨S24x1100, .i32⟩
  | .local _ .vmem, ⟨8, _⟩ => ⟨S24x4096x256, .bf16⟩
  | _, _ => ⟨S24x4096x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24x4096x1152 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1100x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1100 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x4096x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Ids.lean ====
/- What the precondition gives: every voxel id is a word at least -8 and below 1104. -/
module

public import proofs.«01_k».proof.Pre_pre
public import proofs.«01_k».proof.Proof.Gen.Pre_pre
public import Idealize.ShloMosaic.Lib.ReduceAll
public import Idealize.ShloMosaic.Lib.Affine

@[expose] public section

noncomputable section

namespace Cert.Proof

open Idealize.ShloMosaic

/-- A word that names a row of a table once 8 is added: at least -8 and below 1104. -/
def IdOK (w : BitVec 32) : Prop := -8 ≤ w.toInt ∧ w.toInt < 1104

/-- Adding 8 to such a word gives the row its integer says, as a natural number. -/
theorem IdOK.toNat_row {w : BitVec 32} (h : IdOK w) :
    (((Scalar.indexCast (Scalar.addi w 8#32)).toNat : ℕ) : ℤ) = w.toInt + 8 := by
  obtain ⟨h1, h2⟩ := h
  simp only [Scalar.indexCast, Scalar.addi, IntOp.addi, BitVec.toNat_add, BitVec.toNat_ofNat, BitVec.toInt] at h1 h2 ⊢
  split at h1 <;> omega

/-- Adding 8 to such a word gives a row below 1112. -/
theorem IdOK.row {w : BitVec 32} (h : IdOK w) : (Scalar.indexCast (Scalar.addi w 8#32)).toNat + 1 ≤ 1112 := by
  have h0 := h.toNat_row
  have h2 := h.2
  omega

/-- The precondition bounds every voxel id. -/
theorem ids_of_pre {F : FTy → Type} [FloatOps F] (a0 : IVec Cert.Pre_pre.S24x4096x1152 8) (a1 : FVec F Cert.Pre_pre.S24x4096 .f32)
    (a2 : FVec F Cert.Pre_pre.S1152x256 .fp8e4m3) (a3 : FVec F Cert.Pre_pre.S256 .f32) (a4 : FVec F Cert.Pre_pre.S256 .f32)
    (a5 : IVec Cert.Pre_pre.S24x4096 32) (h : Cert.Pre_pre.fn a0 a1 a2 a3 a4 a5 = fun _ => 1#1) (j : Cert.Pre_pre.S24x4096.Idx) :
    IdOK (a5 j) := by
  have andi_one (a b : BitVec 1) : IntOp.andi a b = 1#1 ↔ a = 1#1 ∧ b = 1#1 := by revert a b; decide
  have h0 := congrFun h (fun a => a.elim0)
  dsimp only [Cert.Pre_pre.fn] at h0
  haveI : Subsingleton Cert.Pre_pre.S_.Idx := ⟨fun a b => funext fun x => x.elim0⟩
  have h1 := Host.reduce_andi_all _ _ _ _ _ h0 j
  simp only [constantI, broadcastInDim, cmpi, andi, andi_one] at h1
  obtain ⟨ha, hb⟩ := h1
  have ofBool_eq_one (p : Bool) : (BitVec.ofBool p = 1#1) ↔ p = true := by cases p <;> decide
  simp only [IntOp.cmpi, ofBool_eq_one, BitVec.sle, BitVec.slt, decide_eq_true_eq] at ha hb
  exact ⟨ha, hb⟩

end Cert.Proof

end
-- ==== Proof.KernelLoops.lean ====
/- The weak invariants of the kernel's three counted loops: every buffer the loops write is owned at some contents, and
   the voxel ids are held at words that name table rows. -/
module

public import proofs.«01_k».proof.Proof.Gen.Kernel.Skeleton
public import proofs.«01_k».proof.Proof.Gen.Kernel.Loops
public import proofs.«01_k».proof.Proof.Gen.Kernel
public import proofs.«01_k».proof.Proof.Ids

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra of the frame kit's run. -/
abbrev UU (nD : Nat) (τ : Topo) : Type := UR sig nD τ
/-- The run has no variants. -/
abbrev 𝒱₀ : Variants := Variants.none

local notation "𝕄" => MT nD τ sig Unit (Elt F) ℕ (UR sig nD τ) ℕ

/-- The side condition `k0_chk1` holds of such a word. -/
theorem chk1 {w : BitVec 32} (h : IdOK w) : k0_chk1 w := by
  intro a; fin_cases a
  · exact h.row
  · exact Nat.le_refl 128
/-- The side condition `k0_chk2` holds of such a word. -/
theorem chk2 {w : BitVec 32} (h : IdOK w) : k0_chk2 w := by
  intro a; fin_cases a
  · exact h.row
  · exact Nat.le_refl 128
/-- The side condition `k0_chk3` holds of such a word. -/
theorem chk3 {w : BitVec 32} (h : IdOK w) : k0_chk3 w := by
  intro a; fin_cases a
  · exact h.row
  · exact Nat.le_refl 128
/-- The side condition `k0_chk4` holds of such a word. -/
theorem chk4 {w : BitVec 32} (h : IdOK w) : k0_chk4 w := by
  intro a; fin_cases a
  · exact h.row
  · exact Nat.le_refl 128
/-- The side condition `k0_chk5` holds of such a word. -/
theorem chk5 {w : BitVec 32} (h : IdOK w) : k0_chk5 w := by
  intro a; fin_cases a
  · exact h.row
  · exact Nat.le_refl 128
/-- The side condition `k0_chk6` holds of such a word. -/
theorem chk6 {w : BitVec 32} (h : IdOK w) : k0_chk6 w := by
  intro a; fin_cases a
  · exact h.row
  · exact Nat.le_refl 128
/-- The side condition `k0_chk7` holds of such a word. -/
theorem chk7 {w : BitVec 32} (h : IdOK w) : k0_chk7 w := by
  intro a; fin_cases a
  · exact h.row
  · exact Nat.le_refl 128
/-- The side condition `k0_chk8` holds of such a word. -/
theorem chk8 {w : BitVec 32} (h : IdOK w) : k0_chk8 w := by
  intro a; fin_cases a
  · exact h.row
  · exact Nat.le_refl 128
/-- The side condition `k0_chk9` holds of such a word. -/
theorem chk9 {w : BitVec 32} (h : IdOK w) : k0_chk9 w := by
  intro a; fin_cases a
  · exact h.row
  · exact Nat.le_refl 128
/-- The side condition `k0_chk10` holds of such a word. -/
theorem chk10 {w : BitVec 32} (h : IdOK w) : k0_chk10 w := by
  intro a; fin_cases a
  · exact h.row
  · exact Nat.le_refl 128
/-- The side condition `k0_chk11` holds of such a word. -/
theorem chk11 {w : BitVec 32} (h : IdOK w) : k0_chk11 w := by
  intro a; fin_cases a
  · exact h.row
  · exact Nat.le_refl 128
/-- The side condition `k0_chk12` holds of such a word. -/
theorem chk12 {w : BitVec 32} (h : IdOK w) : k0_chk12 w := by
  intro a; fin_cases a
  · exact h.row
  · exact Nat.le_refl 128
/-- The side condition `k0_chk13` holds of such a word. -/
theorem chk13 {w : BitVec 32} (h : IdOK w) : k0_chk13 w := by
  intro a; fin_cases a
  · exact h.row
  · exact Nat.le_refl 128
/-- The side condition `k0_chk14` holds of such a word. -/
theorem chk14 {w : BitVec 32} (h : IdOK w) : k0_chk14 w := by
  intro a; fin_cases a
  · exact h.row
  · exact Nat.le_refl 128
/-- The side condition `k0_chk15` holds of such a word. -/
theorem chk15 {w : BitVec 32} (h : IdOK w) : k0_chk15 w := by
  intro a; fin_cases a
  · exact h.row
  · exact Nat.le_refl 128
/-- The side condition `k0_chk16` holds of such a word. -/
theorem chk16 {w : BitVec 32} (h : IdOK w) : k0_chk16 w := by
  intro a; fin_cases a
  · exact h.row
  · exact Nat.le_refl 128

/-- A whole memref of the core owned at contents `f`. -/
abbrev held (c : Dev nD) {sp : Space} {sh : Shape} {e : EltTy} (a : Memref sig .tc sp sh e) (f : Buf (Elt F) (a.view.loc (c : Thread nD τ))) : sProp 𝕄 :=
  a.view.loc (c : Thread nD τ) ↦[a.view.set]{fullShare} f

variable (c : Dev nD) (i : grid0.Coords)
  (arg1 : Memref sig .tc .smem S8x4096 .i32) (harg1 : arg1.IsWhole)
  (arg2 : Memref sig .tc .vmem S1x4096x1152 .i8) (harg2 : arg2.IsWhole)
  (arg3 : Memref sig .tc .vmem S8x4096 .f32) (harg3 : arg3.IsWhole)
  (arg4 : Memref sig .tc .vmem S8x4096 .i32) (harg4 : arg4.IsWhole)
  (arg5 : Memref sig .tc .vmem S1152x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1100x256 .bf16) (harg8 : arg8.IsWhole)
  (arg9 : Memref sig .tc .vmem S8x1100 .i32) (harg9 : arg9.IsWhole)
  (arg10 : Memref sig .tc .vmem S1x4096x256 .bf16) (harg10 : arg10.IsWhole)
  (arg11 : Memref sig .tc .vmem S512x128 .i32) (harg11 : arg11.IsWhole)
  (arg12 : Memref sig .tc .vmem S512x128 .i32) (harg12 : arg12.IsWhole)
  (arg13 : Memref sig .tc .vmem S1112x128 .i32) (harg13 : arg13.IsWhole)
  (arg14 : Memref sig .tc .vmem S1112x128 .i32) (harg14 : arg14.IsWhole)
  (arg15 : Memref sig .tc .vmem S1112x128 .i32) (harg15 : arg15.IsWhole)
  (arg16 : Memref sig .tc .vmem S1112x128 .i32) (harg16 : arg16.IsWhole)
  (arg17 : Memref sig .tc .vmem S1112x128 .i32) (harg17 : arg17.IsWhole)
  (arg18 : Memref sig .tc .vmem S1112x128 .i32) (harg18 : arg18.IsWhole)
  (arg19 : Memref sig .tc .vmem S1112x128 .i32) (harg19 : arg19.IsWhole)
  (arg20 : Memref sig .tc .vmem S1112x128 .i32) (harg20 : arg20.IsWhole)

/-- The ids' window, held at words that name table rows. -/
abbrev idsHeld (f : Buf (Elt F) (arg1.view.loc (c : Thread nD τ))) : sProp 𝕄 :=
  iprop(held c arg1 f ∗ ⌜∀ (r : LoadRect S8x4096) j, IdOK (arg1.view.readAt (Elt F) r f j)⌝)
/-- The eight tables, each at some contents. -/
abbrev tablesHeld : sProp 𝕄 :=
  iprop((∃ f, held (F := F) c arg13 f) ∗ (∃ f, held (F := F) c arg14 f) ∗ (∃ f, held (F := F) c arg15 f) ∗ (∃ f, held (F := F) c arg16 f) ∗ (∃ f, held (F := F) c arg17 f) ∗ (∃ f, held (F := F) c arg18 f) ∗ (∃ f, held (F := F) c arg19 f) ∗ (∃ f, held (F := F) c arg20 f))

set_option warn.classDefReducibility false in
set_option maxHeartbeats 4000000 in
/-- Loop `k0_t2`: the ids, the packed block and the tables, each at some contents. -/
@[sl_loop] def loopInv_k0_t2 (v9 : BitVec 32) (k0_t1 : Fin k0_t1_loop.trips) (v307 : BitVec 32)
    (f1 : Buf (Elt F) (arg1.view.loc (c : Thread nD τ))) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 k0_t1 v307 where
  inv _ _ := iprop(idsHeld c arg1 f1 ∗ (∃ f, held (F := F) c arg11 f) ∗ tablesHeld c arg13 arg14 arg15 arg16 arg17 arg18 arg19 arg20)
  step k _ := by
    unfold k0_t2_body
    simp only [k0_part1_eq_skeleton, k0_part2_eq_skeleton, k0_part3_eq_skeleton]
    iintro ⟨⟨H1, %hid⟩, ⟨%fh, Hh⟩, ⟨%f13, H13⟩, ⟨%f14, H14⟩, ⟨%f15, H15⟩, ⟨%f16, H16⟩, ⟨%f17, H17⟩, ⟨%f18, H18⟩, ⟨%f19, H19⟩, ⟨%f20, H20⟩⟩
    sl_exec (disch := first | exact chk1 (hid _ _) | exact chk2 (hid _ _) | exact chk3 (hid _ _) | exact chk4 (hid _ _) | exact chk5 (hid _ _) | exact chk6 (hid _ _) | exact chk7 (hid _ _) | exact chk8 (hid _ _))
    sl_step
    isplitl [H1]; · isplitl [H1]; · iexact H1
                    ipureintro; exact hid
    isplitl [Hh]; · iexists _; iexact Hh
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option warn.classDefReducibility false in
set_option maxHeartbeats 4000000 in
/-- Loop `k0_t3`: the ids, the packed block and the tables, each at some contents. -/
@[sl_loop] def loopInv_k0_t3 (v9 : BitVec 32) (k0_t1 : Fin k0_t1_loop.trips) (v442 : BitVec 32)
    (f1 : Buf (Elt F) (arg1.view.loc (c : Thread nD τ))) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 k0_t1 v442 where
  inv _ _ := iprop(idsHeld c arg1 f1 ∗ (∃ f, held (F := F) c arg12 f) ∗ tablesHeld c arg13 arg14 arg15 arg16 arg17 arg18 arg19 arg20)
  step k _ := by
    unfold k0_t3_body
    simp only [k0_part7_eq_skeleton, k0_part8_eq_skeleton, k0_part9_eq_skeleton]
    iintro ⟨⟨H1, %hid⟩, ⟨%fh, Hh⟩, ⟨%f13, H13⟩, ⟨%f14, H14⟩, ⟨%f15, H15⟩, ⟨%f16, H16⟩, ⟨%f17, H17⟩, ⟨%f18, H18⟩, ⟨%f19, H19⟩, ⟨%f20, H20⟩⟩
    sl_exec (disch := first | exact chk9 (hid _ _) | exact chk10 (hid _ _) | exact chk11 (hid _ _) | exact chk12 (hid _ _) | exact chk13 (hid _ _) | exact chk14 (hid _ _) | exact chk15 (hid _ _) | exact chk16 (hid _ _))
    sl_step
    isplitl [H1]; · isplitl [H1]; · iexact H1
                    ipureintro; exact hid
    isplitl [Hh]; · iexists _; iexact Hh
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option warn.classDefReducibility false in
set_option maxHeartbeats 8000000 in
/-- Loop `k0_t1`: the inputs a tile reads as they are, the point features' window, the packed blocks and the tables each at
    some contents. -/
@[sl_loop] def loopInv_k0_t1 (v9 : BitVec 32) (f1 : Buf (Elt F) (arg1.view.loc (c : Thread nD τ)))
    (f2 : Buf (Elt F) (arg2.view.loc (c : Thread nD τ))) (f3 : Buf (Elt F) (arg3.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 where
  inv _ _ := iprop(idsHeld c arg1 f1 ∗ held c arg2 f2 ∗ held c arg3 f3 ∗ held c arg5 f5 ∗ held c arg6 f6 ∗ held c arg7 f7
    ∗ (∃ f, held (F := F) c arg10 f) ∗ (∃ f, held (F := F) c arg11 f) ∗ (∃ f, held (F := F) c arg12 f) ∗ tablesHeld c arg13 arg14 arg15 arg16 arg17 arg18 arg19 arg20)
  step k _ := by
    unfold k0_t1_body
    simp only [k0_part4_eq_skeleton, k0_part5_eq_skeleton, k0_part6_eq_skeleton, k0_part10_eq_skeleton, k0_part11_eq_skeleton, k0_part12_eq_skeleton]
    iintro ⟨⟨H1, %hid⟩, H2, H3, H5, H6, H7, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    sl_exec
    sl_step
    isplitl [H1]; · isplitl [H1]; · iexact H1
                    ipureintro; exact hid
    isplitl [H2]; · iexact H2
    isplitl [H3]; · iexact H3
    isplitl [H5]; · iexact H5
    isplitl [H6]; · iexact H6
    isplitl [H7]; · iexact H7
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Proof.Kernel

end
-- ==== Proof.KernelBody.lean ====
/- The kernel's body on whole memrefs: from inputs at any contents whose ids name table rows, it runs to its end with
   the inputs as they were and every other buffer at some contents. -/
module

public import proofs.«01_k».proof.Proof.Gen.Kernel.Skeleton
public import proofs.«01_k».proof.Proof.KernelLoops
public import proofs.«01_k».proof.Proof.Gen.Kernel
public import proofs.«01_k».proof.Proof.Ids

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 8000000 in
/-- The body runs with its inputs kept, its outputs and its scratch buffers at some contents. -/
theorem sound_kernel (c : Dev nD) (i : grid0.Coords)
  (arg1 : Memref sig .tc .smem S8x4096 .i32) (harg1 : arg1.IsWhole)
  (arg2 : Memref sig .tc .vmem S1x4096x1152 .i8) (harg2 : arg2.IsWhole)
  (arg3 : Memref sig .tc .vmem S8x4096 .f32) (harg3 : arg3.IsWhole)
  (arg4 : Memref sig .tc .vmem S8x4096 .i32) (harg4 : arg4.IsWhole)
  (arg5 : Memref sig .tc .vmem S1152x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1100x256 .bf16) (harg8 : arg8.IsWhole)
  (arg9 : Memref sig .tc .vmem S8x1100 .i32) (harg9 : arg9.IsWhole)
  (arg10 : Memref sig .tc .vmem S1x4096x256 .bf16) (harg10 : arg10.IsWhole)
  (arg11 : Memref sig .tc .vmem S512x128 .i32) (harg11 : arg11.IsWhole)
  (arg12 : Memref sig .tc .vmem S512x128 .i32) (harg12 : arg12.IsWhole)
  (arg13 : Memref sig .tc .vmem S1112x128 .i32) (harg13 : arg13.IsWhole)
  (arg14 : Memref sig .tc .vmem S1112x128 .i32) (harg14 : arg14.IsWhole)
  (arg15 : Memref sig .tc .vmem S1112x128 .i32) (harg15 : arg15.IsWhole)
  (arg16 : Memref sig .tc .vmem S1112x128 .i32) (harg16 : arg16.IsWhole)
  (arg17 : Memref sig .tc .vmem S1112x128 .i32) (harg17 : arg17.IsWhole)
  (arg18 : Memref sig .tc .vmem S1112x128 .i32) (harg18 : arg18.IsWhole)
  (arg19 : Memref sig .tc .vmem S1112x128 .i32) (harg19 : arg19.IsWhole)
  (arg20 : Memref sig .tc .vmem S1112x128 .i32) (harg20 : arg20.IsWhole)
    (x1 : Vec F S8x4096 .i32) (x2 : Vec F S1x4096x1152 .i8) (x3 : Vec F S8x4096 .f32) (x4 : Vec F S8x4096 .i32) (x5 : Vec F S1152x256 .fp8e4m3) (x6 : Vec F S1x256 .f32) (x7 : Vec F S1x256 .f32) (hx : ∀ j, IdOK (x1 j)) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ Q ⟨⟩))
      ⊢ wp frame (wpE (defs₀ (F := F)) Variants.none c none) Set.univ (cc0_voxel_pfn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_voxel_pfn_eq_skeleton]; unfold cc0_voxel_pfn_skel
  simp only [k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf1 hf2 hf3 hf4 hf5 hf6 hf7
  have hid : ∀ (r : LoadRect S8x4096) j, IdOK (arg1.view.readAt (Elt F) r f1 j) := fun r j => hx _
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.Proof.Kernel

end
-- ==== Proof.KernelFrame.lean ====
/- The frame of the kernel: its pipeline's proof data with the three outputs unnamed, the body obligation, the run, and the
   claim that it terminates with its arguments unchanged and every semaphore at zero. -/
module

public import proofs.«01_k».proof.Defs
public import proofs.«01_k».proof.Proof.Gen.Kernel.Frame
public import proofs.«01_k».proof.Proof.KernelBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output windows are forgotten: nothing here reads what the kernel leaves in them. -/
def forgets : Fin 10 → Bool := ![false, false, false, false, false, false, false, true, true, true]

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The ids' block holds words that name table rows when the ids' array does. -/
theorem ids_block (c : Dev nD) (hid : ∀ j, IdOK (m ((c : Thread nD τ).loc main_arg5) j)) (t : Fin cfg0.N) (j) : IdOK (iblk m c 0 t j) := by
  have hV : ∀ j, IdOK (V m c main_arg5 j) := by rw [V_main_arg5]; exact hid
  exact hV _

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d) ∗ (∃ d, owns (c : Thread nD τ) (st0_8 t) fullShare d) ∗ (∃ d, owns (c : Thread nD τ) (st0_9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d) ∗ (∃ d, owns (c : Thread nD τ) (st0_8 t) fullShare d) ∗ (∃ d, owns (c : Thread nD τ) (st0_9 t) fullShare d))

/-- The invariant between points: the ten scratch buffers at some contents and the generator register at some state. -/
theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

set_option maxHeartbeats 2000000 in
/-- The body at any point. -/
theorem sound_body (c : Dev nD) (hid : ∀ j, IdOK (m ((c : Thread nD τ).loc main_arg5) j)) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq, after_0, after_1, after_2, after_3, after_4, after_5, after_6]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (sound_kernel c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (ids_block m c hid t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) (hid : ∀ j, IdOK (m ((c : Thread nD τ).loc main_arg5) j)) :
    BodyObligation (dats (F := F) m 0 c) (defs₀ (F := F)) Variants.none () Set.univ forgets := fun t => by
  rw [bigSep_W0, bigSep_W0, defs₀_row]
  exact triple_restated (sound_body m c hid t) rfl .rfl fun _ => .rfl

set_option backward.isDefEq.respectTransparency.types false in
set_option maxHeartbeats 800000 in
/-- The run: it terminates, each array is as the pipeline leaves it, and every semaphore counter is zero. -/
theorem run_main (hid : ∀ (c : Dev nD) j, IdOK (m ((c : Thread nD τ).loc main_arg5) j)) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c (hid c)).loose) (hq := fun _ _ _ => rfl)
    (howed := fun _ _ => rfl) (V := V m) (hmain := hmain m Variants.none) (hA := A_eq m) (hΦ := fun _ _ => rfl)

/-- The kernel terminates, its arguments end unchanged and every semaphore counter is zero. -/
theorem frame (hid : ∀ (c : Dev nD) j, IdOK (m ((c : Thread nD τ).loc main_arg5) j)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (h.1.arr_in c 1 rfl).trans ((A_eq m c 1).trans (V_main_arg0 m c)),
      (h.1.arr_in c 2 rfl).trans ((A_eq m c 2).trans (V_main_arg1 m c)),
      (h.1.arr_in c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 3 rfl).trans ((A_eq m c 3).trans (V_main_arg5 m c))⟩, h.2⟩) (run_main m ρ hid)

end Cert.Proof.Kernel

end
-- ==== Proof.KernelIdealChk.lean ====
/- The side conditions a voxel id's table row meets, and memrefs owned whole. -/
module

public import proofs.«01_k».proof.Proof.Gen.KernelIdeal.Skeleton
public import proofs.«01_k».proof.Proof.Gen.KernelIdeal.Loops
public import proofs.«01_k».proof.Proof.Gen.KernelIdeal
public import proofs.«01_k».proof.Proof.Ids

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit's run. -/
abbrev UU (nD : Nat) (τ : Topo) : Type := UR sig nD τ
/-- The run has no variants. -/
abbrev 𝒱₀ : Variants := Variants.none

local notation "𝕄" => MT nD τ sig Unit (Elt F) ℕ (UR sig nD τ) ℕ

/-- The side condition `k0_chk1` holds of such a word. -/
theorem chk1 {w : BitVec 32} (h : IdOK w) : k0_chk1 w := by
  intro a; fin_cases a
  · exact h.row
  · exact Nat.le_refl 2
  · exact Nat.le_refl 128
/-- The side condition `k0_chk2` holds of such a word. -/
theorem chk2 {w : BitVec 32} (h : IdOK w) : k0_chk2 w := by
  intro a; fin_cases a
  · exact h.row
  · exact Nat.le_refl 2
  · exact Nat.le_refl 128
/-- The side condition `k0_chk3` holds of such a word. -/
theorem chk3 {w : BitVec 32} (h : IdOK w) : k0_chk3 w := by
  intro a; fin_cases a
  · exact h.row
  · exact Nat.le_refl 2
  · exact Nat.le_refl 128
/-- The side condition `k0_chk4` holds of such a word. -/
theorem chk4 {w : BitVec 32} (h : IdOK w) : k0_chk4 w := by
  intro a; fin_cases a
  · exact h.row
  · exact Nat.le_refl 2
  · exact Nat.le_refl 128
/-- The side condition `k0_chk5` holds of such a word. -/
theorem chk5 {w : BitVec 32} (h : IdOK w) : k0_chk5 w := by
  intro a; fin_cases a
  · exact h.row
  · exact Nat.le_refl 2
  · exact Nat.le_refl 128
/-- The side condition `k0_chk6` holds of such a word. -/
theorem chk6 {w : BitVec 32} (h : IdOK w) : k0_chk6 w := by
  intro a; fin_cases a
  · exact h.row
  · exact Nat.le_refl 2
  · exact Nat.le_refl 128
/-- The side condition `k0_chk7` holds of such a word. -/
theorem chk7 {w : BitVec 32} (h : IdOK w) : k0_chk7 w := by
  intro a; fin_cases a
  · exact h.row
  · exact Nat.le_refl 2
  · exact Nat.le_refl 128
/-- The side condition `k0_chk8` holds of such a word. -/
theorem chk8 {w : BitVec 32} (h : IdOK w) : k0_chk8 w := by
  intro a; fin_cases a
  · exact h.row
  · exact Nat.le_refl 2
  · exact Nat.le_refl 128
/-- The side condition `k0_chk9` holds of such a word. -/
theorem chk9 {w : BitVec 32} (h : IdOK w) : k0_chk9 w := by
  intro a; fin_cases a
  · exact h.row
  · exact Nat.le_refl 2
  · exact Nat.le_refl 128
/-- The side condition `k0_chk10` holds of such a word. -/
theorem chk10 {w : BitVec 32} (h : IdOK w) : k0_chk10 w := by
  intro a; fin_cases a
  · exact h.row
  · exact Nat.le_refl 2
  · exact Nat.le_refl 128
/-- The side condition `k0_chk11` holds of such a word. -/
theorem chk11 {w : BitVec 32} (h : IdOK w) : k0_chk11 w := by
  intro a; fin_cases a
  · exact h.row
  · exact Nat.le_refl 2
  · exact Nat.le_refl 128
/-- The side condition `k0_chk12` holds of such a word. -/
theorem chk12 {w : BitVec 32} (h : IdOK w) : k0_chk12 w := by
  intro a; fin_cases a
  · exact h.row
  · exact Nat.le_refl 2
  · exact Nat.le_refl 128
/-- The side condition `k0_chk13` holds of such a word. -/
theorem chk13 {w : BitVec 32} (h : IdOK w) : k0_chk13 w := by
  intro a; fin_cases a
  · exact h.row
  · exact Nat.le_refl 2
  · exact Nat.le_refl 128
/-- The side condition `k0_chk14` holds of such a word. -/
theorem chk14 {w : BitVec 32} (h : IdOK w) : k0_chk14 w := by
  intro a; fin_cases a
  · exact h.row
  · exact Nat.le_refl 2
  · exact Nat.le_refl 128
/-- The side condition `k0_chk15` holds of such a word. -/
theorem chk15 {w : BitVec 32} (h : IdOK w) : k0_chk15 w := by
  intro a; fin_cases a
  · exact h.row
  · exact Nat.le_refl 2
  · exact Nat.le_refl 128
/-- The side condition `k0_chk16` holds of such a word. -/
theorem chk16 {w : BitVec 32} (h : IdOK w) : k0_chk16 w := by
  intro a; fin_cases a
  · exact h.row
  · exact Nat.le_refl 2
  · exact Nat.le_refl 128

/-- A whole memref of the core owned at contents `f`. -/
abbrev held (c : Dev nD) {sp : Space} {sh : Shape} {e : EltTy} (a : Memref sig .tc sp sh e) (f : Buf (Elt F) (a.view.loc (c : Thread nD τ))) : sProp 𝕄 :=
  a.view.loc (c : Thread nD τ) ↦[a.view.set]{fullShare} f

end Cert.Proof.KernelIdeal
-- ==== Proof.Tables.lean ====
/- What the kernel's eight tables hold: after each merge, the largest of the rows merged so far. With the positions at which
   a merge reads its voxel id and its row. -/
module

public import proofs.«01_k».proof.Proof.Gen.KernelIdeal.Skeleton
public import proofs.«01_k».proof.Proof.Gen.KernelIdeal
public import proofs.«01_k».proof.Proof.Ids
public import Idealize.ShloMosaic.Lib.Bf16PairInverse
public import Idealize.ShloMosaic.Lib.WritesUnit
public import Idealize.ShloMosaic.Lib.VecWindow
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

/-- The table row a voxel id names. -/
def rowOf (w : BitVec 32) : ℕ := (Scalar.indexCast (Scalar.addi w 8#32)).toNat

/-- Table `T` with the pair of rows `h` merged, by the larger entry, into its row `r`. -/
def mrg (T : Vec F S1112x2x128 .bf16) (r : ℕ) (h : Fin 2 → Fin 128 → Elt F .bf16) : Vec F S1112x2x128 .bf16 :=
  fun j => if (j 0).val = r then FloatOps.maximumf (T j) (h (j 1) (j 2)) else T j

/-- Table `k` after its first `n` merges, of points `k`, `8 + k`, `16 + k` and so on. -/
def tab (idf : ℕ → BitVec 32) (hf : ℕ → Fin 2 → Fin 128 → Elt F .bf16) (k : ℕ) : ℕ → Vec F S1112x2x128 .bf16
  | 0 => constant S1112x2x128 .bf16 0x0000#16
  | n + 1 => mrg (tab idf hf k n) (rowOf (idf (8 * n + k))) (hf (8 * n + k))

/-- Tile `t` of the points' rows. -/
def hblk (hf : ℕ → Fin 2 → Fin 128 → Elt F .bf16) (t : ℕ) : Vec F S512x2x128 .bf16 :=
  fun j => hf (512 * t + (j 0).val) (j 1) (j 2)

/-- The id of point `p` of scene row `s` of a block of ids. -/
def idAt (x1 : Vec F S8x4096 .i32) (s p : ℕ) : BitVec 32 :=
  if h : s < 8 ∧ p < 4096 then x1 (fun a => ⟨![s, p] a, by fin_cases a; exacts [h.1, h.2]⟩) else 0

/-- The larger of two packed rows, as the merge writes it, is the entrywise larger. -/
theorem pay2_eq (a b : Vec F S1x2x128 .bf16) : k0_pay2 a b = fun j => FloatOps.maximumf (a j) (b j) := by
  have key : ∀ (lo hi lo' hi' : S1x1x128.Idx → F .bf16) (j : S1x2x128.Idx),
      interleaveRows S1x2x128 (fun i => FloatOps.maximumf (lo i) (lo' i)) (fun i => FloatOps.maximumf (hi i) (hi' i)) bitcasts_S1x2x128_w16_S1x1x128_w32 j
        = FloatOps.maximumf (interleaveRows S1x2x128 lo hi bitcasts_S1x2x128_w16_S1x1x128_w32 j) (interleaveRows S1x2x128 lo' hi' bitcasts_S1x2x128_w16_S1x1x128_w32 j) := by
    intro lo hi lo' hi' j
    unfold interleaveRows
    dsimp only
    split <;> rfl
  have par : ∀ (p : Fin 2) (lo hi lo' hi' : S1x128.Idx → F .bf16),
      rowsOfParity p S1x128 (maximumf (φ := .bf16) (interleaveRows S2x128 lo hi bitcasts_S2x128_w16_S1x128_w32) (interleaveRows S2x128 lo' hi' bitcasts_S2x128_w16_S1x128_w32)) bitcasts_S2x128_w16_S1x128_w32
        = fun i => FloatOps.maximumf ((if p = 0 then lo else hi) i) ((if p = 0 then lo' else hi') i) := by
    intro p lo hi lo' hi'
    rw [← rowsOfParity_interleaveRows p bitcasts_S2x128_w16_S1x128_w32 lo hi, ← rowsOfParity_interleaveRows p bitcasts_S2x128_w16_S1x128_w32 lo' hi']
    rfl
  funext j
  unfold k0_pay2
  rw [par, par]
  simp only [if_pos, if_neg, show ¬ (1 : Fin 2) = 0 by decide, if_false]
  have sc : ∀ (x y : S1x1x128.Idx → F .bf16),
      shapeCast S1x1x128 (fun i => FloatOps.maximumf (shapeCast S1x128 x shapeCasts_S1x1x128_S1x128 i) (shapeCast S1x128 y shapeCasts_S1x1x128_S1x128 i)) shapeCasts_S1x128_S1x1x128
        = fun i => FloatOps.maximumf (x i) (y i) := by
    intro x y
    have hx := shapeCast_shapeCast x shapeCasts_S1x1x128_S1x128 shapeCasts_S1x128_S1x1x128
    have hy := shapeCast_shapeCast y shapeCasts_S1x1x128_S1x128 shapeCasts_S1x128_S1x1x128
    funext i
    exact congrArg₂ FloatOps.maximumf (congrFun hx i) (congrFun hy i)
  rw [sc, sc, key, interleaveRows_rowsOfParity, interleaveRows_rowsOfParity]

/-- One merge: the store of the larger of a table's row and a point's row leaves the table with that row merged. -/
theorem merge_step {sp sp' : Space} (a : Memref sig .tc sp S1112x2x128 .bf16) (b : Memref sig .tc sp' S512x2x128 .bf16)
    (f : a.view.ty.Contents (Elt F)) (fh : b.view.ty.Contents (Elt F)) {T : Vec F S1112x2x128 .bf16} {H : Vec F S512x2x128 .bf16}
    (hT : a.view.read (Elt F) f = T) (hH : b.view.read (Elt F) fh = H) (r q : ℕ) (h : Fin 2 → Fin 128 → Elt F .bf16)
    {off : Fin 3 → ℕ} {off' : Fin 3 → ℕ} (hoff : off = ![r, 0, 0]) (hoff' : off' = ![q, 0, 0])
    (inb : ∀ x, off x + S1x2x128.size x ≤ S1112x2x128.size x) (inb' : ∀ x, off' x + S1x2x128.size x ≤ S512x2x128.size x)
    (hrow : ∀ j : S512x2x128.Idx, (j 0).val = q → H j = h (j 1) (j 2)) :
    a.view.read (Elt F) (a.view.writes (Elt F) f [⟨Rect.unit (s := S1112x2x128) off S1x2x128.size inb,
        k0_pay2 (a.view.readAt (Elt F) (Rect.unit (s := S1112x2x128) off S1x2x128.size inb).toLoadRect f)
          (b.view.readAt (Elt F) (Rect.unit (s := S512x2x128) off' S1x2x128.size inb').toLoadRect fh)⟩]) = mrg T r h := by
  subst hoff hoff'
  funext y
  by_cases hy : (y 0).val = r
  · have hlt1 : (y 1).val < 2 := (y 1).isLt
    have hlt2 : (y 2).val < 128 := (y 2).isLt
    let x : S1x2x128.Idx := fun b => ⟨![0, (y 1).val, (y 2).val] b, by fin_cases b; exacts [Nat.zero_lt_one, hlt1, hlt2]⟩
    rw [View.read_writes_cons_unit_of_mem a.view f inb _ [] y x rfl (by
      intro b; fin_cases b
      · exact hy
      · exact (Nat.zero_add _).symm
      · exact (Nat.zero_add _).symm)]
    rw [pay2_eq]
    show FloatOps.maximumf (a.view.read (Elt F) f _) (b.view.read (Elt F) fh _) = _
    rw [hT, hH, hrow _ rfl, mrg, if_pos hy]
    congr 1
    · congr 1; funext b; apply Fin.ext; fin_cases b
      · exact hy.symm
      · show 0 + 1 * (y 1).val = (y 1).val; omega
      · show 0 + 1 * (y 2).val = (y 2).val; omega
    · congr 1
      · apply Fin.ext; show 0 + 1 * (y 1).val = (y 1).val; omega
      · apply Fin.ext; show 0 + 1 * (y 2).val = (y 2).val; omega
  · rw [View.read_writes_cons_unit_of_not_mem a.view f inb _ [] y rfl 0 (by
      show (y 0).val < r ∨ r + 1 ≤ (y 0).val
      omega), View.writes_nil, hT, mrg, if_neg hy]

/-- A scalar load of the ids at scene row `s`, point `p`. -/
theorem idAt_of_load {sp : Space} (a : Memref sig .tc sp S8x4096 .i32) (f : a.view.ty.Contents (Elt F)) {X : Vec F S8x4096 .i32}
    (hX : a.view.read (Elt F) f = X) {s p : ℕ} {off : Fin 2 → ℕ} (hoff : off = ![s, p]) (inb : ∀ x, off x + S1x1.size x ≤ S8x4096.size x) (j : S1x1.Idx) :
    a.view.readAt (Elt F) (Rect.unit (s := S8x4096) off S1x1.size inb).toLoadRect f j = idAt X s p := by
  subst hoff hX
  have h0 : s + 1 ≤ 8 := inb 0
  have h1 : p + 1 ≤ 4096 := inb 1
  rw [idAt, dif_pos ⟨by omega, by omega⟩]
  show a.view.read (Elt F) f _ = _
  congr 1; funext b; apply Fin.ext; fin_cases b
  · have : (j 0).val < 1 := (j 0).isLt
    show s + 1 * (j 0).val = s; omega
  · have : (j 1).val < 1 := (j 1).isLt
    show p + 1 * (j 1).val = p; omega

theorem off_pair {f : Fin 2 → ℕ} {a b : ℕ} (h0 : f 0 = a) (h1 : f 1 = b) : f = ![a, b] := by
  funext x; fin_cases x; exacts [h0, h1]

/-- Where the first tile's merge 0 of a trip reads its id. -/
theorem k0_off5_eq (i : grid0.Coords) (t : Fin k0_t1_loop.trips) (u : Fin k0_t2_loop.trips) : k0_off5 i t u = ![(i 0).val % 8, 1024 * t.val + 8 * u.val + 0] := by
  refine off_pair ?_ ?_
  · dsimp only [k0_off5, Matrix.cons_val_zero]
    generalize i 0 = a
    revert a; decide +kernel
  · dsimp only [k0_off5, Matrix.cons_val_one, Matrix.cons_val_zero, Matrix.cons_val_fin_one]
    revert t u; decide +kernel

/-- Where the first tile's merge 1 of a trip reads its id. -/
theorem k0_off8_eq (i : grid0.Coords) (t : Fin k0_t1_loop.trips) (u : Fin k0_t2_loop.trips) : k0_off8 i t u = ![(i 0).val % 8, 1024 * t.val + 8 * u.val + 1] := by
  refine off_pair ?_ ?_
  · dsimp only [k0_off8, Matrix.cons_val_zero]
    generalize i 0 = a
    revert a; decide +kernel
  · dsimp only [k0_off8, Matrix.cons_val_one, Matrix.cons_val_zero, Matrix.cons_val_fin_one]
    revert t u; decide +kernel

/-- Where the first tile's merge 2 of a trip reads its id. -/
theorem k0_off11_eq (i : grid0.Coords) (t : Fin k0_t1_loop.trips) (u : Fin k0_t2_loop.trips) : k0_off11 i t u = ![(i 0).val % 8, 1024 * t.val + 8 * u.val + 2] := by
  refine off_pair ?_ ?_
  · dsimp only [k0_off11, Matrix.cons_val_zero]
    generalize i 0 = a
    revert a; decide +kernel
  · dsimp only [k0_off11, Matrix.cons_val_one, Matrix.cons_val_zero, Matrix.cons_val_fin_one]
    revert t u; decide +kernel

/-- Where the first tile's merge 3 of a trip reads its id. -/
theorem k0_off14_eq (i : grid0.Coords) (t : Fin k0_t1_loop.trips) (u : Fin k0_t2_loop.trips) : k0_off14 i t u = ![(i 0).val % 8, 1024 * t.val + 8 * u.val + 3] := by
  refine off_pair ?_ ?_
  · dsimp only [k0_off14, Matrix.cons_val_zero]
    generalize i 0 = a
    revert a; decide +kernel
  · dsimp only [k0_off14, Matrix.cons_val_one, Matrix.cons_val_zero, Matrix.cons_val_fin_one]
    revert t u; decide +kernel

/-- Where the first tile's merge 4 of a trip reads its id. -/
theorem k0_off17_eq (i : grid0.Coords) (t : Fin k0_t1_loop.trips) (u : Fin k0_t2_loop.trips) : k0_off17 i t u = ![(i 0).val % 8, 1024 * t.val + 8 * u.val + 4] := by
  refine off_pair ?_ ?_
  · dsimp only [k0_off17, Matrix.cons_val_zero]
    generalize i 0 = a
    revert a; decide +kernel
  · dsimp only [k0_off17, Matrix.cons_val_one, Matrix.cons_val_zero, Matrix.cons_val_fin_one]
    revert t u; decide +kernel

/-- Where the first tile's merge 5 of a trip reads its id. -/
theorem k0_off20_eq (i : grid0.Coords) (t : Fin k0_t1_loop.trips) (u : Fin k0_t2_loop.trips) : k0_off20 i t u = ![(i 0).val % 8, 1024 * t.val + 8 * u.val + 5] := by
  refine off_pair ?_ ?_
  · dsimp only [k0_off20, Matrix.cons_val_zero]
    generalize i 0 = a
    revert a; decide +kernel
  · dsimp only [k0_off20, Matrix.cons_val_one, Matrix.cons_val_zero, Matrix.cons_val_fin_one]
    revert t u; decide +kernel

/-- Where the first tile's merge 6 of a trip reads its id. -/
theorem k0_off23_eq (i : grid0.Coords) (t : Fin k0_t1_loop.trips) (u : Fin k0_t2_loop.trips) : k0_off23 i t u = ![(i 0).val % 8, 1024 * t.val + 8 * u.val + 6] := by
  refine off_pair ?_ ?_
  · dsimp only [k0_off23, Matrix.cons_val_zero]
    generalize i 0 = a
    revert a; decide +kernel
  · dsimp only [k0_off23, Matrix.cons_val_one, Matrix.cons_val_zero, Matrix.cons_val_fin_one]
    revert t u; decide +kernel

/-- Where the first tile's merge 7 of a trip reads its id. -/
theorem k0_off26_eq (i : grid0.Coords) (t : Fin k0_t1_loop.trips) (u : Fin k0_t2_loop.trips) : k0_off26 i t u = ![(i 0).val % 8, 1024 * t.val + 8 * u.val + 7] := by
  refine off_pair ?_ ?_
  · dsimp only [k0_off26, Matrix.cons_val_zero]
    generalize i 0 = a
    revert a; decide +kernel
  · dsimp only [k0_off26, Matrix.cons_val_one, Matrix.cons_val_zero, Matrix.cons_val_fin_one]
    revert t u; decide +kernel

/-- Where the second tile's merge 0 of a trip reads its id. -/
theorem k0_off33_eq (i : grid0.Coords) (t : Fin k0_t1_loop.trips) (u : Fin k0_t3_loop.trips) : k0_off33 i t u = ![(i 0).val % 8, 1024 * t.val + 512 + 8 * u.val + 0] := by
  refine off_pair ?_ ?_
  · dsimp only [k0_off33, Matrix.cons_val_zero]
    generalize i 0 = a
    revert a; decide +kernel
  · dsimp only [k0_off33, Matrix.cons_val_one, Matrix.cons_val_zero, Matrix.cons_val_fin_one]
    revert t u; decide +kernel

/-- Where the second tile's merge 1 of a trip reads its id. -/
theorem k0_off36_eq (i : grid0.Coords) (t : Fin k0_t1_loop.trips) (u : Fin k0_t3_loop.trips) : k0_off36 i t u = ![(i 0).val % 8, 1024 * t.val + 512 + 8 * u.val + 1] := by
  refine off_pair ?_ ?_
  · dsimp only [k0_off36, Matrix.cons_val_zero]
    generalize i 0 = a
    revert a; decide +kernel
  · dsimp only [k0_off36, Matrix.cons_val_one, Matrix.cons_val_zero, Matrix.cons_val_fin_one]
    revert t u; decide +kernel

/-- Where the second tile's merge 2 of a trip reads its id. -/
theorem k0_off39_eq (i : grid0.Coords) (t : Fin k0_t1_loop.trips) (u : Fin k0_t3_loop.trips) : k0_off39 i t u = ![(i 0).val % 8, 1024 * t.val + 512 + 8 * u.val + 2] := by
  refine off_pair ?_ ?_
  · dsimp only [k0_off39, Matrix.cons_val_zero]
    generalize i 0 = a
    revert a; decide +kernel
  · dsimp only [k0_off39, Matrix.cons_val_one, Matrix.cons_val_zero, Matrix.cons_val_fin_one]
    revert t u; decide +kernel

/-- Where the second tile's merge 3 of a trip reads its id. -/
theorem k0_off42_eq (i : grid0.Coords) (t : Fin k0_t1_loop.trips) (u : Fin k0_t3_loop.trips) : k0_off42 i t u = ![(i 0).val % 8, 1024 * t.val + 512 + 8 * u.val + 3] := by
  refine off_pair ?_ ?_
  · dsimp only [k0_off42, Matrix.cons_val_zero]
    generalize i 0 = a
    revert a; decide +kernel
  · dsimp only [k0_off42, Matrix.cons_val_one, Matrix.cons_val_zero, Matrix.cons_val_fin_one]
    revert t u; decide +kernel

/-- Where the second tile's merge 4 of a trip reads its id. -/
theorem k0_off45_eq (i : grid0.Coords) (t : Fin k0_t1_loop.trips) (u : Fin k0_t3_loop.trips) : k0_off45 i t u = ![(i 0).val % 8, 1024 * t.val + 512 + 8 * u.val + 4] := by
  refine off_pair ?_ ?_
  · dsimp only [k0_off45, Matrix.cons_val_zero]
    generalize i 0 = a
    revert a; decide +kernel
  · dsimp only [k0_off45, Matrix.cons_val_one, Matrix.cons_val_zero, Matrix.cons_val_fin_one]
    revert t u; decide +kernel

/-- Where the second tile's merge 5 of a trip reads its id. -/
theorem k0_off48_eq (i : grid0.Coords) (t : Fin k0_t1_loop.trips) (u : Fin k0_t3_loop.trips) : k0_off48 i t u = ![(i 0).val % 8, 1024 * t.val + 512 + 8 * u.val + 5] := by
  refine off_pair ?_ ?_
  · dsimp only [k0_off48, Matrix.cons_val_zero]
    generalize i 0 = a
    revert a; decide +kernel
  · dsimp only [k0_off48, Matrix.cons_val_one, Matrix.cons_val_zero, Matrix.cons_val_fin_one]
    revert t u; decide +kernel

/-- Where the second tile's merge 6 of a trip reads its id. -/
theorem k0_off51_eq (i : grid0.Coords) (t : Fin k0_t1_loop.trips) (u : Fin k0_t3_loop.trips) : k0_off51 i t u = ![(i 0).val % 8, 1024 * t.val + 512 + 8 * u.val + 6] := by
  refine off_pair ?_ ?_
  · dsimp only [k0_off51, Matrix.cons_val_zero]
    generalize i 0 = a
    revert a; decide +kernel
  · dsimp only [k0_off51, Matrix.cons_val_one, Matrix.cons_val_zero, Matrix.cons_val_fin_one]
    revert t u; decide +kernel

/-- Where the second tile's merge 7 of a trip reads its id. -/
theorem k0_off54_eq (i : grid0.Coords) (t : Fin k0_t1_loop.trips) (u : Fin k0_t3_loop.trips) : k0_off54 i t u = ![(i 0).val % 8, 1024 * t.val + 512 + 8 * u.val + 7] := by
  refine off_pair ?_ ?_
  · dsimp only [k0_off54, Matrix.cons_val_zero]
    generalize i 0 = a
    revert a; decide +kernel
  · dsimp only [k0_off54, Matrix.cons_val_one, Matrix.cons_val_zero, Matrix.cons_val_fin_one]
    revert t u; decide +kernel

end Cert.Proof.KernelIdeal
-- ==== Proof.ValueMerge.lean ====
/- The kernel's two merge loops: each trip merges eight rows of a tile of the points, one into each table. -/
module

public import proofs.«01_k».proof.Proof.KernelIdealChk
public import proofs.«01_k».proof.Proof.Tables

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref of the core that reads as `X`. -/
abbrev reads (c : Dev nD) {sp : Space} {sh : Shape} {e : EltTy} (a : Memref sig .tc sp sh e) (X : Vec F sh e) : sProp 𝕄 :=
  iprop(∃ f, held (F := F) c a f ∗ ⌜a.view.read (Elt F) f = X⌝)

variable (c : Dev nD) (i : grid0.Coords)
  (arg1 : Memref sig .tc .smem S8x4096 .i32) (harg1 : arg1.IsWhole)
  (arg2 : Memref sig .tc .vmem S1x4096x1152 .i8) (harg2 : arg2.IsWhole)
  (arg3 : Memref sig .tc .vmem S8x4096 .f32) (harg3 : arg3.IsWhole)
  (arg4 : Memref sig .tc .vmem S8x4096 .i32) (harg4 : arg4.IsWhole)
  (arg5 : Memref sig .tc .vmem S1152x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1100x256 .bf16) (harg8 : arg8.IsWhole)
  (arg9 : Memref sig .tc .vmem S8x1100 .i32) (harg9 : arg9.IsWhole)
  (arg10 : Memref sig .tc .vmem S1x4096x256 .bf16) (harg10 : arg10.IsWhole)
  (arg11 : Memref sig .tc .vmem S512x2x128 .bf16) (harg11 : arg11.IsWhole)
  (arg12 : Memref sig .tc .vmem S512x2x128 .bf16) (harg12 : arg12.IsWhole)
  (arg13 : Memref sig .tc .vmem S1112x2x128 .bf16) (harg13 : arg13.IsWhole)
  (arg14 : Memref sig .tc .vmem S1112x2x128 .bf16) (harg14 : arg14.IsWhole)
  (arg15 : Memref sig .tc .vmem S1112x2x128 .bf16) (harg15 : arg15.IsWhole)
  (arg16 : Memref sig .tc .vmem S1112x2x128 .bf16) (harg16 : arg16.IsWhole)
  (arg17 : Memref sig .tc .vmem S1112x2x128 .bf16) (harg17 : arg17.IsWhole)
  (arg18 : Memref sig .tc .vmem S1112x2x128 .bf16) (harg18 : arg18.IsWhole)
  (arg19 : Memref sig .tc .vmem S1112x2x128 .bf16) (harg19 : arg19.IsWhole)
  (arg20 : Memref sig .tc .vmem S1112x2x128 .bf16) (harg20 : arg20.IsWhole)

/-- The eight tables after `n` merges each. -/
abbrev tablesAt (idf : ℕ → BitVec 32) (hf : ℕ → Fin 2 → Fin 128 → Elt F .bf16) (n : ℕ) : sProp 𝕄 :=
  iprop(reads c arg13 (tab idf hf 0 n) ∗ reads c arg14 (tab idf hf 1 n) ∗ reads c arg15 (tab idf hf 2 n) ∗ reads c arg16 (tab idf hf 3 n) ∗ reads c arg17 (tab idf hf 4 n) ∗ reads c arg18 (tab idf hf 5 n) ∗ reads c arg19 (tab idf hf 6 n) ∗ reads c arg20 (tab idf hf 7 n))

/-- One merge of a trip: point `8 * n + k` goes into table `k`. -/
theorem merge_next {sp sp' sp1 : Space} (a : Memref sig .tc sp S1112x2x128 .bf16) (b : Memref sig .tc sp' S512x2x128 .bf16) (d : Memref sig .tc sp1 S8x4096 .i32)
    (f : a.view.ty.Contents (Elt F)) (fh : b.view.ty.Contents (Elt F)) (f1 : d.view.ty.Contents (Elt F)) {x1 : Vec F S8x4096 .i32}
    (e1 : d.view.read (Elt F) f1 = x1) {hf : ℕ → Fin 2 → Fin 128 → Elt F .bf16} {t s k n m : ℕ}
    (eh : b.view.read (Elt F) fh = hblk hf t) (e : a.view.read (Elt F) f = tab (idAt x1 s) hf k n)
    {offI : Fin 2 → ℕ} (inbI : ∀ x, offI x + S1x1.size x ≤ S8x4096.size x) (j : S1x1.Idx) {p q : ℕ} (hI : offI = ![s, p])
    (hm : m = n + 1) (hp : p = 8 * n + k) (hq : 512 * t + q = 8 * n + k) (w : BitVec 32)
    (hw : w = d.view.readAt (Elt F) (Rect.unit (s := S8x4096) offI S1x1.size inbI).toLoadRect f1 j)
    {off : Fin 3 → ℕ} {off' : Fin 3 → ℕ} (hoff : off = ![rowOf w, 0, 0]) (hoff' : off' = ![q, 0, 0])
    (inb : ∀ x, off x + S1x2x128.size x ≤ S1112x2x128.size x) (inb' : ∀ x, off' x + S1x2x128.size x ≤ S512x2x128.size x) :
    a.view.read (Elt F) (a.view.writes (Elt F) f [⟨Rect.unit (s := S1112x2x128) off S1x2x128.size inb,
        k0_pay2 (a.view.readAt (Elt F) (Rect.unit (s := S1112x2x128) off S1x2x128.size inb).toLoadRect f)
          (b.view.readAt (Elt F) (Rect.unit (s := S512x2x128) off' S1x2x128.size inb').toLoadRect fh)⟩]) = tab (idAt x1 s) hf k m := by
  subst hm
  have hw' : w = idAt x1 s (8 * n + k) := by rw [hw, idAt_of_load d f1 e1 hI inbI j, hp]
  rw [merge_step a b f fh e eh (rowOf w) q (hf (8 * n + k)) hoff hoff' inb inb' (fun j hj => by
    show hf (512 * t + (j 0).val) (j 1) (j 2) = _
    rw [hj, hq]), hw']
  rfl

set_option warn.classDefReducibility false in
set_option maxHeartbeats 8000000 in
/-- Loop `k0_t2`: before trip `n` the tables hold the merges of all earlier tiles and of the first `8 * n` rows of this one. -/
def valueInv_k0_t2 (v9 : BitVec 32) (v120 v126 : FVec F S512x128 .f32) (k0_t1 : Fin k0_t1_loop.trips) (v307 : BitVec 32)
    (x1 : Vec F S8x4096 .i32) (hx : ∀ j, IdOK (x1 j)) (hf : ℕ → Fin 2 → Fin 128 → Elt F .bf16) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v307 where
  inv n _ := iprop(reads c arg1 x1 ∗ reads c arg11 (hblk hf (2 * k0_t1.val)) ∗ tablesAt c arg13 arg14 arg15 arg16 arg17 arg18 arg19 arg20 (idAt x1 ((i 0).val % 8)) hf (64 * (2 * k0_t1.val) + n))
  step k _ := by
    unfold k0_t2_body
    simp only [k0_part1_eq_skeleton, k0_part2_eq_skeleton, k0_part3_eq_skeleton, k0_part4_eq_skeleton, k0_part5_eq_skeleton]
    iintro ⟨⟨%f1, H1, %e1⟩, ⟨%fh, Hh, %eh⟩, ⟨%f13, H13, %e13⟩, ⟨%f14, H14, %e14⟩, ⟨%f15, H15, %e15⟩, ⟨%f16, H16, %e16⟩, ⟨%f17, H17, %e17⟩, ⟨%f18, H18, %e18⟩, ⟨%f19, H19, %e19⟩, ⟨%f20, H20, %e20⟩⟩
    have hid : ∀ (r : LoadRect S8x4096) j, IdOK (arg1.view.readAt (Elt F) r f1 j) := by
      intro r j; subst e1; exact hx _
    sl_exec (disch := first | exact chk1 (hid _ _) | exact chk2 (hid _ _) | exact chk3 (hid _ _) | exact chk4 (hid _ _) | exact chk5 (hid _ _) | exact chk6 (hid _ _) | exact chk7 (hid _ _) | exact chk8 (hid _ _))
    sl_step
    isplitl [H1]; · iexists _; isplitl [H1]; iexact H1
                    ipureintro; exact e1
    isplitl [Hh]; · iexists _; isplitl [Hh]; iexact Hh
                    ipureintro; exact eh
    isplitl [H13]; · iexists _; isplitl [H13]; iexact H13
                     ipureintro
                     exact merge_next arg13 arg11 arg1 f13 fh f1 e1 eh e13 (k0_off5_inb i k0_t1 k) _ (k0_off5_eq i k0_t1 k) rfl (by omega) (by omega) _ rfl rfl (k0_off7_eq k) _ (k0_off7_inb k)
    isplitl [H14]; · iexists _; isplitl [H14]; iexact H14
                     ipureintro
                     exact merge_next arg14 arg11 arg1 f14 fh f1 e1 eh e14 (k0_off8_inb i k0_t1 k) _ (k0_off8_eq i k0_t1 k) rfl (by omega) (by omega) _ rfl rfl (k0_off10_eq k) _ (k0_off10_inb k)
    isplitl [H15]; · iexists _; isplitl [H15]; iexact H15
                     ipureintro
                     exact merge_next arg15 arg11 arg1 f15 fh f1 e1 eh e15 (k0_off11_inb i k0_t1 k) _ (k0_off11_eq i k0_t1 k) rfl (by omega) (by omega) _ rfl rfl (k0_off13_eq k) _ (k0_off13_inb k)
    isplitl [H16]; · iexists _; isplitl [H16]; iexact H16
                     ipureintro
                     exact merge_next arg16 arg11 arg1 f16 fh f1 e1 eh e16 (k0_off14_inb i k0_t1 k) _ (k0_off14_eq i k0_t1 k) rfl (by omega) (by omega) _ rfl rfl (k0_off16_eq k) _ (k0_off16_inb k)
    isplitl [H17]; · iexists _; isplitl [H17]; iexact H17
                     ipureintro
                     exact merge_next arg17 arg11 arg1 f17 fh f1 e1 eh e17 (k0_off17_inb i k0_t1 k) _ (k0_off17_eq i k0_t1 k) rfl (by omega) (by omega) _ rfl rfl (k0_off19_eq k) _ (k0_off19_inb k)
    isplitl [H18]; · iexists _; isplitl [H18]; iexact H18
                     ipureintro
                     exact merge_next arg18 arg11 arg1 f18 fh f1 e1 eh e18 (k0_off20_inb i k0_t1 k) _ (k0_off20_eq i k0_t1 k) rfl (by omega) (by omega) _ rfl rfl (k0_off22_eq k) _ (k0_off22_inb k)
    isplitl [H19]; · iexists _; isplitl [H19]; iexact H19
                     ipureintro
                     exact merge_next arg19 arg11 arg1 f19 fh f1 e1 eh e19 (k0_off23_inb i k0_t1 k) _ (k0_off23_eq i k0_t1 k) rfl (by omega) (by omega) _ rfl rfl (k0_off25_eq k) _ (k0_off25_inb k)
    iexists _; isplitl [H20]; iexact H20
    ipureintro
    exact merge_next arg20 arg11 arg1 f20 fh f1 e1 eh e20 (k0_off26_inb i k0_t1 k) _ (k0_off26_eq i k0_t1 k) rfl (by omega) (by omega) _ rfl rfl (k0_off28_eq k) _ (k0_off28_inb k)

/-- The whole loop: from the tables with the earlier tiles merged to the tables with this tile merged too. -/
theorem loop_k0_t2 (v9 : BitVec 32) (v120 v126 : FVec F S512x128 .f32) (k0_t1 : Fin k0_t1_loop.trips) (v307 : BitVec 32)
    (x1 : Vec F S8x4096 .i32) (hx : ∀ j, IdOK (x1 j)) (hf : ℕ → Fin 2 → Fin 128 → Elt F .bf16) {n n' : ℕ} (hn : n = 64 * (2 * k0_t1.val)) (hn' : n' = n + 64)
    {β : Type} {kk : Unit → Prog (TpuEff nD τ sig (Elt F) Λ₀ .tc) β} {Q : β → sProp 𝕄} :
    iprop((reads c arg1 x1 ∗ reads c arg11 (hblk hf (2 * k0_t1.val)) ∗ tablesAt c arg13 arg14 arg15 arg16 arg17 arg18 arg19 arg20 (idAt x1 ((i 0).val % 8)) hf n)
      ∗ (∀ acc : Unit, (reads c arg1 x1 ∗ reads c arg11 (hblk hf (2 * k0_t1.val)) ∗ tablesAt c arg13 arg14 arg15 arg16 arg17 arg18 arg19 arg20 (idAt x1 ((i 0).val % 8)) hf n')
          -∗ wp Idealize.ShloMosaic.frame (wpE defs₀ 𝒱₀ (c : Thread nD τ) none) Set.univ (kk acc) Q))
      ⊢ wp Idealize.ShloMosaic.frame (wpE defs₀ 𝒱₀ (c : Thread nD τ) none) Set.univ
          (k0_t2_loop.for k0_t2_ok PUnit.unit (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v307) >>= kk) Q := by
  have ht : Scf.trips k0_t2_loop.lb k0_t2_loop.ub k0_t2_loop.st = 64 := by decide
  have h := BIClass.wand_elim (exec_loop (kk := kk) (Q := Q) Idealize.ShloMosaic.frame (wpE defs₀ 𝒱₀ (c : Thread nD τ) none) Set.univ k0_t2_loop.lb k0_t2_loop.ub k0_t2_loop.st k0_t2_ok PUnit.unit _
      (valueInv_k0_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v307 x1 hx hf))
  rw [ht] at h
  subst hn' hn
  exact h

set_option warn.classDefReducibility false in
set_option maxHeartbeats 8000000 in
/-- Loop `k0_t3`: before trip `n` the tables hold the merges of all earlier tiles and of the first `8 * n` rows of this one. -/
def valueInv_k0_t3 (v9 : BitVec 32) (v120 v126 : FVec F S512x128 .f32) (k0_t1 : Fin k0_t1_loop.trips) (v442 : BitVec 32)
    (x1 : Vec F S8x4096 .i32) (hx : ∀ j, IdOK (x1 j)) (hf : ℕ → Fin 2 → Fin 128 → Elt F .bf16) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v442 where
  inv n _ := iprop(reads c arg1 x1 ∗ reads c arg12 (hblk hf (2 * k0_t1.val + 1)) ∗ tablesAt c arg13 arg14 arg15 arg16 arg17 arg18 arg19 arg20 (idAt x1 ((i 0).val % 8)) hf (64 * (2 * k0_t1.val + 1) + n))
  step k _ := by
    unfold k0_t3_body
    simp only [k0_part9_eq_skeleton, k0_part10_eq_skeleton, k0_part11_eq_skeleton, k0_part12_eq_skeleton, k0_part13_eq_skeleton]
    iintro ⟨⟨%f1, H1, %e1⟩, ⟨%fh, Hh, %eh⟩, ⟨%f13, H13, %e13⟩, ⟨%f14, H14, %e14⟩, ⟨%f15, H15, %e15⟩, ⟨%f16, H16, %e16⟩, ⟨%f17, H17, %e17⟩, ⟨%f18, H18, %e18⟩, ⟨%f19, H19, %e19⟩, ⟨%f20, H20, %e20⟩⟩
    have hid : ∀ (r : LoadRect S8x4096) j, IdOK (arg1.view.readAt (Elt F) r f1 j) := by
      intro r j; subst e1; exact hx _
    sl_exec (disch := first | exact chk9 (hid _ _) | exact chk10 (hid _ _) | exact chk11 (hid _ _) | exact chk12 (hid _ _) | exact chk13 (hid _ _) | exact chk14 (hid _ _) | exact chk15 (hid _ _) | exact chk16 (hid _ _))
    sl_step
    isplitl [H1]; · iexists _; isplitl [H1]; iexact H1
                    ipureintro; exact e1
    isplitl [Hh]; · iexists _; isplitl [Hh]; iexact Hh
                    ipureintro; exact eh
    isplitl [H13]; · iexists _; isplitl [H13]; iexact H13
                     ipureintro
                     exact merge_next arg13 arg12 arg1 f13 fh f1 e1 eh e13 (k0_off33_inb i k0_t1 k) _ (k0_off33_eq i k0_t1 k) rfl (by omega) (by omega) _ rfl rfl (k0_off35_eq k) _ (k0_off35_inb k)
    isplitl [H14]; · iexists _; isplitl [H14]; iexact H14
                     ipureintro
                     exact merge_next arg14 arg12 arg1 f14 fh f1 e1 eh e14 (k0_off36_inb i k0_t1 k) _ (k0_off36_eq i k0_t1 k) rfl (by omega) (by omega) _ rfl rfl (k0_off38_eq k) _ (k0_off38_inb k)
    isplitl [H15]; · iexists _; isplitl [H15]; iexact H15
                     ipureintro
                     exact merge_next arg15 arg12 arg1 f15 fh f1 e1 eh e15 (k0_off39_inb i k0_t1 k) _ (k0_off39_eq i k0_t1 k) rfl (by omega) (by omega) _ rfl rfl (k0_off41_eq k) _ (k0_off41_inb k)
    isplitl [H16]; · iexists _; isplitl [H16]; iexact H16
                     ipureintro
                     exact merge_next arg16 arg12 arg1 f16 fh f1 e1 eh e16 (k0_off42_inb i k0_t1 k) _ (k0_off42_eq i k0_t1 k) rfl (by omega) (by omega) _ rfl rfl (k0_off44_eq k) _ (k0_off44_inb k)
    isplitl [H17]; · iexists _; isplitl [H17]; iexact H17
                     ipureintro
                     exact merge_next arg17 arg12 arg1 f17 fh f1 e1 eh e17 (k0_off45_inb i k0_t1 k) _ (k0_off45_eq i k0_t1 k) rfl (by omega) (by omega) _ rfl rfl (k0_off47_eq k) _ (k0_off47_inb k)
    isplitl [H18]; · iexists _; isplitl [H18]; iexact H18
                     ipureintro
                     exact merge_next arg18 arg12 arg1 f18 fh f1 e1 eh e18 (k0_off48_inb i k0_t1 k) _ (k0_off48_eq i k0_t1 k) rfl (by omega) (by omega) _ rfl rfl (k0_off50_eq k) _ (k0_off50_inb k)
    isplitl [H19]; · iexists _; isplitl [H19]; iexact H19
                     ipureintro
                     exact merge_next arg19 arg12 arg1 f19 fh f1 e1 eh e19 (k0_off51_inb i k0_t1 k) _ (k0_off51_eq i k0_t1 k) rfl (by omega) (by omega) _ rfl rfl (k0_off53_eq k) _ (k0_off53_inb k)
    iexists _; isplitl [H20]; iexact H20
    ipureintro
    exact merge_next arg20 arg12 arg1 f20 fh f1 e1 eh e20 (k0_off54_inb i k0_t1 k) _ (k0_off54_eq i k0_t1 k) rfl (by omega) (by omega) _ rfl rfl (k0_off56_eq k) _ (k0_off56_inb k)

/-- The whole loop: from the tables with the earlier tiles merged to the tables with this tile merged too. -/
theorem loop_k0_t3 (v9 : BitVec 32) (v120 v126 : FVec F S512x128 .f32) (k0_t1 : Fin k0_t1_loop.trips) (v442 : BitVec 32)
    (x1 : Vec F S8x4096 .i32) (hx : ∀ j, IdOK (x1 j)) (hf : ℕ → Fin 2 → Fin 128 → Elt F .bf16) {n n' : ℕ} (hn : n = 64 * (2 * k0_t1.val + 1)) (hn' : n' = n + 64)
    {β : Type} {kk : Unit → Prog (TpuEff nD τ sig (Elt F) Λ₀ .tc) β} {Q : β → sProp 𝕄} :
    iprop((reads c arg1 x1 ∗ reads c arg12 (hblk hf (2 * k0_t1.val + 1)) ∗ tablesAt c arg13 arg14 arg15 arg16 arg17 arg18 arg19 arg20 (idAt x1 ((i 0).val % 8)) hf n)
      ∗ (∀ acc : Unit, (reads c arg1 x1 ∗ reads c arg12 (hblk hf (2 * k0_t1.val + 1)) ∗ tablesAt c arg13 arg14 arg15 arg16 arg17 arg18 arg19 arg20 (idAt x1 ((i 0).val % 8)) hf n')
          -∗ wp Idealize.ShloMosaic.frame (wpE defs₀ 𝒱₀ (c : Thread nD τ) none) Set.univ (kk acc) Q))
      ⊢ wp Idealize.ShloMosaic.frame (wpE defs₀ 𝒱₀ (c : Thread nD τ) none) Set.univ
          (k0_t3_loop.for k0_t3_ok PUnit.unit (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v442) >>= kk) Q := by
  have ht : Scf.trips k0_t3_loop.lb k0_t3_loop.ub k0_t3_loop.st = 64 := by decide
  have h := BIClass.wand_elim (exec_loop (kk := kk) (Q := Q) Idealize.ShloMosaic.frame (wpE defs₀ 𝒱₀ (c : Thread nD τ) none) Set.univ k0_t3_loop.lb k0_t3_loop.ub k0_t3_loop.st k0_t3_ok PUnit.unit _
      (valueInv_k0_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k0_t1 v442 x1 hx hf))
  rw [ht] at h
  subst hn' hn
  exact h

end Cert.Proof.KernelIdeal
-- ==== Proof.Tile.lean ====
/- One tile of 512 points: its rows as the kernel computes them, and where its stores put them. -/
module

public import proofs.«01_k».proof.Proof.Tables
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

/-- Tile `t` of the scene's points. -/
def x2w (x2 : Vec F S1x4096x1152 .i8) (t : ℕ) : Vec F S1x512x1152 .i8 :=
  fun j => x2 (ix3 (0 : Fin 1) (⟨(512 * t + (j 1).val) % 4096, Nat.mod_lt _ (by decide)⟩ : Fin 4096) (j 2 : Fin 1152))

/-- The scales of the eight scenes' points `512 t + 128 m` to `512 t + 128 m + 127`. -/
def x3w (x3 : Vec F S8x4096 .f32) (t m : ℕ) : Vec F S8x128 .f32 :=
  fun j => x3 (ix2 (j 0 : Fin 8) (⟨(512 * t + 128 * m + (j 1).val) % 4096, Nat.mod_lt _ (by decide)⟩ : Fin 4096))

/-- Half `q` of a row of 256. -/
def x6w (x6 : Vec F S1x256 .f32) (q : ℕ) : Vec F S1x128 .f32 :=
  fun j => x6 (ix2 (0 : Fin 1) (⟨(128 * q + (j 1).val) % 256, Nat.mod_lt _ (by decide)⟩ : Fin 256))

/-- The left half of a tile's features, from what the kernel loads. -/
def tlo (A : Vec F S1x512x1152 .i8) (W : Vec F S1152x256 .fp8e4m3) (v9 : BitVec 32) (s0 s1 s2 s3 : Vec F S8x128 .f32) (w b : Vec F S1x128 .f32) : FVec F S512x128 .f32 :=
  k0_pay37 (k0_pay32 A W) (k0_pay33 v9 s0) (k0_pay33 v9 s1) (k0_pay33 v9 s2) s3 (Scalar.subi 8#32 v9) 8#32 (Scalar.cmpi .eq 8#32 0#32) w b

/-- The right half of a tile's features, from what the kernel loads. -/
def thi (A : Vec F S1x512x1152 .i8) (W : Vec F S1152x256 .fp8e4m3) (v9 : BitVec 32) (s0 s1 s2 s3 : Vec F S8x128 .f32) (w b : Vec F S1x128 .f32) : FVec F S512x128 .f32 :=
  k0_pay38 (k0_pay32 A W) (k0_pay33 v9 s0) (k0_pay33 v9 s1) (k0_pay33 v9 s2) s3 (Scalar.subi 8#32 v9) 8#32 (Scalar.cmpi .eq 8#32 0#32) w b

/-- Half `q` of tile `t`'s features. -/
def tileOf (x2 : Vec F S1x4096x1152 .i8) (x3 : Vec F S8x4096 .f32) (x5 : Vec F S1152x256 .fp8e4m3) (x6 x7 : Vec F S1x256 .f32) (v9 : BitVec 32) (t : ℕ) (q : Fin 2) : FVec F S512x128 .f32 :=
  if q.val = 0 then tlo (x2w x2 t) x5 v9 (x3w x3 t 0) (x3w x3 t 1) (x3w x3 t 2) (x3w x3 t 3) (x6w x6 0) (x6w x7 0)
  else thi (x2w x2 t) x5 v9 (x3w x3 t 0) (x3w x3 t 1) (x3w x3 t 2) (x3w x3 t 3) (x6w x6 1) (x6w x7 1)

/-- Point `p`'s features, in its two halves. -/
def hrow (x2 : Vec F S1x4096x1152 .i8) (x3 : Vec F S8x4096 .f32) (x5 : Vec F S1152x256 .fp8e4m3) (x6 x7 : Vec F S1x256 .f32) (v9 : BitVec 32) (p : ℕ) (q : Fin 2) (l : Fin 128) : Elt F .bf16 :=
  truncf .bf16 (tileOf x2 x3 x5 x6 x7 v9 (p / 512) q) bitsLt_bf16_f32 (ix2 (⟨p % 512, Nat.mod_lt _ (by decide)⟩ : Fin 512) l)

section Variants
variable (A : Vec F S1x512x1152 .i8) (W : Vec F S1152x256 .fp8e4m3) (v9 : BitVec 32) (s0 s1 s2 s3 : Vec F S8x128 .f32) (w b : Vec F S1x128 .f32)

/-- The three places where the kernel computes the left half of a tile compute one function. -/
theorem tlo_loop : k0_pay37 (k0_pay32 A W) (k0_pay33 v9 s0) (k0_pay34 s1 (Scalar.subi 8#32 v9) 8#32 (Scalar.cmpi .eq 8#32 0#32)) (k0_pay35 v9 s2) s3
    (Scalar.subi 8#32 v9) 8#32 (Scalar.cmpi .eq 8#32 0#32) w b = tlo A W v9 s0 s1 s2 s3 w b := rfl
theorem tlo_next : k0_pay18 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3
    (Scalar.select (Scalar.cmpi .eq 8#32 0#32) 1#32 8#32) (Scalar.remsi (Scalar.subi 8#32 v9) (Scalar.select (Scalar.cmpi .eq 8#32 0#32) 1#32 8#32)) w b = tlo A W v9 s0 s1 s2 s3 w b := rfl
/-- The three places where the kernel computes the right half of a tile compute one function. -/
theorem thi_loop : k0_pay38 (k0_pay32 A W) (k0_pay33 v9 s0) (k0_pay34 s1 (Scalar.subi 8#32 v9) 8#32 (Scalar.cmpi .eq 8#32 0#32)) (k0_pay35 v9 s2) s3
    (Scalar.subi 8#32 v9) 8#32 (Scalar.cmpi .eq 8#32 0#32) w b = thi A W v9 s0 s1 s2 s3 w b := rfl
theorem thi_next : k0_pay19 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3
    (Scalar.select (Scalar.cmpi .eq 8#32 0#32) 1#32 8#32) (Scalar.remsi (Scalar.subi 8#32 v9) (Scalar.select (Scalar.cmpi .eq 8#32 0#32) 1#32 8#32)) w b = thi A W v9 s0 s1 s2 s3 w b := rfl
end Variants

section Loads
variable {sp : Space} {t m q : ℕ}

theorem ld2 (a : Memref sig .tc sp S1x4096x1152 .i8) (f : a.view.ty.Contents (Elt F)) {X : Vec F S1x4096x1152 .i8} (hX : a.view.read (Elt F) f = X)
    {off : Fin 3 → ℕ} {n : ℕ} (hoff : off = ![0, n, 0]) (hn : n = 512 * t) (inb : ∀ x, off x + S1x512x1152.size x ≤ S1x4096x1152.size x) :
    a.view.readAt (Elt F) (Rect.unit (s := S1x4096x1152) off S1x512x1152.size inb).toLoadRect f = x2w X t := by
  subst hoff hX hn
  have h1 : 512 * t + 512 ≤ 4096 := inb 1
  funext j
  show a.view.read (Elt F) f _ = a.view.read (Elt F) f _
  congr 1; funext b; apply Fin.ext
  have h2 : (j 1).val < 512 := (j 1).isLt
  fin_cases b
  · have : (j 0).val < 1 := (j 0).isLt
    show 0 + 1 * (j 0).val = 0; omega
  · show 512 * t + 1 * (j 1).val = (512 * t + (j 1).val) % 4096; omega
  · show 0 + 1 * (j 2).val = (j 2).val; omega

theorem ld3 (a : Memref sig .tc sp S8x4096 .f32) (f : a.view.ty.Contents (Elt F)) {X : Vec F S8x4096 .f32} (hX : a.view.read (Elt F) f = X)
    {off : Fin 2 → ℕ} {n : ℕ} (hoff : off = ![0, n]) (hn : n = 512 * t + 128 * m) (inb : ∀ x, off x + S8x128.size x ≤ S8x4096.size x) :
    a.view.readAt (Elt F) (Rect.unit (s := S8x4096) off S8x128.size inb).toLoadRect f = x3w X t m := by
  subst hoff hX hn
  have h1 : 512 * t + 128 * m + 128 ≤ 4096 := inb 1
  funext j
  show a.view.read (Elt F) f _ = a.view.read (Elt F) f _
  congr 1; funext b; apply Fin.ext
  have h2 : (j 1).val < 128 := (j 1).isLt
  fin_cases b
  · show 0 + 1 * (j 0).val = (j 0).val; omega
  · show 512 * t + 128 * m + 1 * (j 1).val = (512 * t + 128 * m + (j 1).val) % 4096; omega

theorem ld6 (a : Memref sig .tc sp S1x256 .f32) (f : a.view.ty.Contents (Elt F)) {X : Vec F S1x256 .f32} (hX : a.view.read (Elt F) f = X)
    {off : Fin 2 → ℕ} {n : ℕ} (hoff : off = ![0, n]) (hn : n = 128 * q) (inb : ∀ x, off x + S1x128.size x ≤ S1x256.size x) :
    a.view.readAt (Elt F) (Rect.unit (s := S1x256) off S1x128.size inb).toLoadRect f = x6w X q := by
  subst hoff hX hn
  have h1 : 128 * q + 128 ≤ 256 := inb 1
  funext j
  show a.view.read (Elt F) f _ = a.view.read (Elt F) f _
  congr 1; funext b; apply Fin.ext
  have h2 : (j 1).val < 128 := (j 1).isLt
  fin_cases b
  · have : (j 0).val < 1 := (j 0).isLt
    show 0 + 1 * (j 0).val = 0; omega
  · show 128 * q + 1 * (j 1).val = (128 * q + (j 1).val) % 256; omega

end Loads

/-- A tile's two halves as the words of a packed block. -/
theorem pack_apply (lo hi : FVec F S512x128 .f32) (j : S512x2x128.Idx) :
    k0_pay53 lo hi j = truncf .bf16 (if (j 1).val = 0 then lo else hi) bitsLt_bf16_f32 (ix2 (j 0 : Fin 512) (j 2 : Fin 128)) := by
  have hsc : ∀ (v : S512x128.Idx → F .bf16) (k : S512x1x128.Idx), shapeCast S512x1x128 v shapeCasts_S512x128_S512x1x128 k = v (ix2 (k 0 : Fin 512) (k 2 : Fin 128)) := by
    intro v k
    refine shapeCast_apply v _ k _ ?_
    rw [Shape.rowMajor_val_three, Shape.rowMajor_val_two]
    have : (k 1).val < 1 := (k 1).isLt
    show (k 0).val * 128 + (k 2).val = ((k 0).val * 1 + (k 1).val) * 128 + (k 2).val
    omega
  unfold k0_pay53 interleaveRows
  dsimp only
  rw [hsc, hsc]
  have hrow : S512x2x128.row j = (j 1).val := rfl
  have hlt : (j 1).val < 2 := (j 1).isLt
  by_cases h : (j 1).val = 0
  · rw [if_pos (by rw [hrow, h]), if_pos h]
    rfl
  · rw [if_neg (by rw [hrow]; omega), if_neg h]
    rfl

/-- Tile `t` packed is tile `t` of the points' rows. -/
theorem tile_packed {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1) :
    k0_pay53 (tlo A W v9 s0 s1 s2 s3 w0 b0) (thi A W v9 s0 s1 s2 s3 w1 b1) = hblk (hrow x2 x3 x5 x6 x7 v9) t := by
  subst hA hW h0 h1 h2 h3 hw0 hb0 hw1 hb1
  funext j
  have hj : (j 0).val < 512 := (j 0).isLt
  rw [pack_apply]
  have hd : (512 * t + (j 0).val) / 512 = t := by omega
  have hm : (512 * t + (j 0).val) % 512 = (j 0).val := by omega
  show _ = truncf .bf16 (tileOf x2 x3 W x6 x7 v9 ((512 * t + (j 0).val) / 512) (j 1)) bitsLt_bf16_f32 (ix2 ⟨(512 * t + (j 0).val) % 512, _⟩ (j 2))
  rw [hd]
  have : (⟨(512 * t + (j 0).val) % 512, Nat.mod_lt _ (by decide)⟩ : Fin 512) = (j 0 : Fin 512) := Fin.ext hm
  rw [this]
  rfl

/-- The point features of a scene, from its points' rows. -/
def pfOf (hf : ℕ → Fin 2 → Fin 128 → Elt F .bf16) (y : S1x4096x256.Idx) : Elt F .bf16 :=
  hf (y 1).val ⟨(y 2).val / 128, by have : (y 2).val < 256 := (y 2).isLt; omega⟩ ⟨(y 2).val % 128, Nat.mod_lt _ (by decide)⟩

/-- The stores of tile `t`'s two halves extend the point features written so far by that tile. -/
theorem pf_step {sp : Space} (a : Memref sig .tc sp S1x4096x256 .bf16) (f : a.view.ty.Contents (Elt F)) (L : List (View.Piece (Elt F) S1x4096x256 .bf16))
    {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1)
    {off off' : Fin 3 → ℕ} {n : ℕ} (hoff : off = ![0, n, 0]) (hoff' : off' = ![0, n, 128]) (hn : n = 512 * t) {N N' : ℕ} (hN : N ≤ 512 * t) (hge : 512 * t ≤ N) (hN' : N' ≤ 512 * t + 512)
    (inb : ∀ x, off x + S1x512x128.size x ≤ S1x4096x256.size x) (inb' : ∀ x, off' x + S1x512x128.size x ≤ S1x4096x256.size x)
    (hf : ∀ y, (y 1).val < N → a.view.read (Elt F) (a.view.writes (Elt F) f L) y = pfOf (hrow x2 x3 x5 x6 x7 v9) y) :
    ∀ y, (y 1).val < N' → a.view.read (Elt F) (a.view.writes (Elt F) f
      (⟨Rect.unit (s := S1x4096x256) off' S1x512x128.size inb', k0_pay52 (thi A W v9 s0 s1 s2 s3 w1 b1)⟩
        :: ⟨Rect.unit (s := S1x4096x256) off S1x512x128.size inb, k0_pay52 (tlo A W v9 s0 s1 s2 s3 w0 b0)⟩ :: L)) y = pfOf (hrow x2 x3 x5 x6 x7 v9) y := by
  subst hA hW h0 h1 h2 h3 hw0 hb0 hw1 hb1 hoff hoff' hn
  intro y hy
  have hsc : ∀ (v : FVec F S512x128 .f32) (k : S1x512x128.Idx), k0_pay52 v k = truncf .bf16 v bitsLt_bf16_f32 (ix2 (k 1 : Fin 512) (k 2 : Fin 128)) := by
    intro v k
    refine shapeCast_apply (truncf .bf16 v bitsLt_bf16_f32) _ k _ ?_
    rw [Shape.rowMajor_val_three, Shape.rowMajor_val_two]
    have : (k 0).val < 1 := (k 0).isLt
    show (k 1).val * 128 + (k 2).val = ((k 0).val * 512 + (k 1).val) * 128 + (k 2).val
    omega
  have hy0 : (y 0).val < 1 := (y 0).isLt
  have hy2 : (y 2).val < 256 := (y 2).isLt
  by_cases hlo : (y 1).val < 512 * t
  · rw [View.read_writes_cons_unit_of_not_mem a.view f inb' _ _ y rfl 1 (Or.inl hlo), View.read_writes_cons_unit_of_not_mem a.view f inb _ _ y rfl 1 (Or.inl hlo)]
    exact hf y (by omega)
  · have hp : (y 1).val - 512 * t < 512 := by omega
    have hd : (y 1).val / 512 = t := by omega
    have hm : (⟨(y 1).val % 512, Nat.mod_lt _ (by decide)⟩ : Fin 512) = ⟨(y 1).val - 512 * t, hp⟩ := Fin.ext (by show (y 1).val % 512 = (y 1).val - 512 * t; omega)
    by_cases hc : (y 2).val < 128
    · rw [View.read_writes_cons_unit_of_not_mem a.view f inb' _ _ y rfl 2 (Or.inl hc),
        View.read_writes_cons_unit_of_mem a.view f inb _ _ y (ix3 (0 : Fin 1) (⟨(y 1).val - 512 * t, hp⟩ : Fin 512) (⟨(y 2).val, hc⟩ : Fin 128)) rfl (by
          intro b; fin_cases b
          · show (y 0).val = 0 + 0; omega
          · show (y 1).val = 512 * t + ((y 1).val - 512 * t); omega
          · show (y 2).val = 0 + (y 2).val; omega), hsc]
      have hq : (⟨(y 2).val / 128, by omega⟩ : Fin 2) = 0 := Fin.ext (by show (y 2).val / 128 = 0; omega)
      have hl : (⟨(y 2).val % 128, Nat.mod_lt _ (by decide)⟩ : Fin 128) = ⟨(y 2).val, hc⟩ := Fin.ext (by show (y 2).val % 128 = (y 2).val; omega)
      unfold pfOf hrow
      rw [hd, hm, hq, hl]
      rfl
    · have hc' : (y 2).val - 128 < 128 := by omega
      rw [View.read_writes_cons_unit_of_mem a.view f inb' _ _ y (ix3 (0 : Fin 1) (⟨(y 1).val - 512 * t, hp⟩ : Fin 512) (⟨(y 2).val - 128, hc'⟩ : Fin 128)) rfl (by
          intro b; fin_cases b
          · show (y 0).val = 0 + 0; omega
          · show (y 1).val = 512 * t + ((y 1).val - 512 * t); omega
          · show (y 2).val = 128 + ((y 2).val - 128); omega), hsc]
      have hq : (⟨(y 2).val / 128, by omega⟩ : Fin 2) = 1 := Fin.ext (by show (y 2).val / 128 = 1; omega)
      have hl : (⟨(y 2).val % 128, Nat.mod_lt _ (by decide)⟩ : Fin 128) = ⟨(y 2).val - 128, hc'⟩ := Fin.ext (by show (y 2).val % 128 = (y 2).val - 128; omega)
      unfold pfOf hrow
      rw [hd, hm, hq, hl]
      rfl

/-- `tile_packed` and `pf_step` over the words of the kernel's code (loop). -/
theorem lo_loop (A : Vec F S1x512x1152 .i8) (W : Vec F S1152x256 .fp8e4m3) (v9 : BitVec 32) (s0 s1 s2 s3 : Vec F S8x128 .f32) (w0 b0 : Vec F S1x128 .f32) :
    k0_pay51 (k0_pay39 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w0 b0) = k0_pay52 (tlo A W v9 s0 s1 s2 s3 w0 b0) := rfl
theorem hi_loop (A : Vec F S1x512x1152 .i8) (W : Vec F S1152x256 .fp8e4m3) (v9 : BitVec 32) (s0 s1 s2 s3 : Vec F S8x128 .f32) (w1 b1 : Vec F S1x128 .f32) :
    k0_pay52 (k0_pay38 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w1 b1) = k0_pay52 (thi A W v9 s0 s1 s2 s3 w1 b1) := rfl
theorem pack_loop (A : Vec F S1x512x1152 .i8) (W : Vec F S1152x256 .fp8e4m3) (v9 : BitVec 32) (s0 s1 s2 s3 : Vec F S8x128 .f32) (w0 b0 w1 b1 : Vec F S1x128 .f32) :
    k0_pay53 (k0_pay37 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w0 b0) (k0_pay38 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w1 b1) = k0_pay53 (tlo A W v9 s0 s1 s2 s3 w0 b0) (thi A W v9 s0 s1 s2 s3 w1 b1) := rfl
theorem tile_packed_loop {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1) :
    k0_pay53 (k0_pay37 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w0 b0) (k0_pay38 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w1 b1) = hblk (hrow x2 x3 x5 x6 x7 v9) t :=
  (pack_loop A W v9 s0 s1 s2 s3 w0 b0 w1 b1).trans (tile_packed hA hW h0 h1 h2 h3 hw0 hb0 hw1 hb1)
theorem pf_step_loop {sp : Space} (a : Memref sig .tc sp S1x4096x256 .bf16) (f : a.view.ty.Contents (Elt F)) (L : List (View.Piece (Elt F) S1x4096x256 .bf16))
    {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1)
    {off off' : Fin 3 → ℕ} {n : ℕ} (hoff : off = ![0, n, 0]) (hoff' : off' = ![0, n, 128]) (hn : n = 512 * t) {N N' : ℕ} (hN : N ≤ 512 * t) (hge : 512 * t ≤ N) (hN' : N' ≤ 512 * t + 512)
    (inb : ∀ x, off x + S1x512x128.size x ≤ S1x4096x256.size x) (inb' : ∀ x, off' x + S1x512x128.size x ≤ S1x4096x256.size x)
    (hf : ∀ y, (y 1).val < N → a.view.read (Elt F) (a.view.writes (Elt F) f L) y = pfOf (hrow x2 x3 x5 x6 x7 v9) y) :
    ∀ y, (y 1).val < N' → a.view.read (Elt F) (a.view.writes (Elt F) f
      (⟨Rect.unit (s := S1x4096x256) off' S1x512x128.size inb', k0_pay52 (k0_pay38 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w1 b1)⟩
        :: ⟨Rect.unit (s := S1x4096x256) off S1x512x128.size inb, k0_pay51 (k0_pay39 (k0_pay32 A W) (k0_pay33 v9 s0) (k0_pay34 s1 (Scalar.subi 8#32 v9) 8#32 (Scalar.cmpi .eq 8#32 0#32)) (k0_pay35 v9 s2) s3 (Scalar.subi 8#32 v9) 8#32 (Scalar.cmpi .eq 8#32 0#32) w0 b0)⟩ :: L)) y = pfOf (hrow x2 x3 x5 x6 x7 v9) y := by
  rw [lo_loop, hi_loop]
  exact pf_step a f L hA hW h0 h1 h2 h3 hw0 hb0 hw1 hb1 hoff hoff' hn hN hge hN' inb inb' hf

/-- `tile_packed` and `pf_step` over the words of the kernel's code (next). -/
theorem lo_next (A : Vec F S1x512x1152 .i8) (W : Vec F S1152x256 .fp8e4m3) (v9 : BitVec 32) (s0 s1 s2 s3 : Vec F S8x128 .f32) (w0 b0 : Vec F S1x128 .f32) :
    k0_pay20 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w0 b0 = k0_pay52 (tlo A W v9 s0 s1 s2 s3 w0 b0) := rfl
theorem hi_next (A : Vec F S1x512x1152 .i8) (W : Vec F S1152x256 .fp8e4m3) (v9 : BitVec 32) (s0 s1 s2 s3 : Vec F S8x128 .f32) (w1 b1 : Vec F S1x128 .f32) :
    k0_pay55 (k0_pay19 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w1 b1) = k0_pay52 (thi A W v9 s0 s1 s2 s3 w1 b1) := rfl
theorem pack_next (A : Vec F S1x512x1152 .i8) (W : Vec F S1152x256 .fp8e4m3) (v9 : BitVec 32) (s0 s1 s2 s3 : Vec F S8x128 .f32) (w0 b0 w1 b1 : Vec F S1x128 .f32) :
    k0_pay56 (k0_pay18 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w0 b0) (k0_pay19 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w1 b1) = k0_pay53 (tlo A W v9 s0 s1 s2 s3 w0 b0) (thi A W v9 s0 s1 s2 s3 w1 b1) := rfl
theorem tile_packed_next {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1) :
    k0_pay56 (k0_pay18 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w0 b0) (k0_pay19 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w1 b1) = hblk (hrow x2 x3 x5 x6 x7 v9) t :=
  (pack_next A W v9 s0 s1 s2 s3 w0 b0 w1 b1).trans (tile_packed hA hW h0 h1 h2 h3 hw0 hb0 hw1 hb1)
theorem pf_step_next {sp : Space} (a : Memref sig .tc sp S1x4096x256 .bf16) (f : a.view.ty.Contents (Elt F)) (L : List (View.Piece (Elt F) S1x4096x256 .bf16))
    {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1)
    {off off' : Fin 3 → ℕ} {n : ℕ} (hoff : off = ![0, n, 0]) (hoff' : off' = ![0, n, 128]) (hn : n = 512 * t) {N N' : ℕ} (hN : N ≤ 512 * t) (hge : 512 * t ≤ N) (hN' : N' ≤ 512 * t + 512)
    (inb : ∀ x, off x + S1x512x128.size x ≤ S1x4096x256.size x) (inb' : ∀ x, off' x + S1x512x128.size x ≤ S1x4096x256.size x)
    (hf : ∀ y, (y 1).val < N → a.view.read (Elt F) (a.view.writes (Elt F) f L) y = pfOf (hrow x2 x3 x5 x6 x7 v9) y) :
    ∀ y, (y 1).val < N' → a.view.read (Elt F) (a.view.writes (Elt F) f
      (⟨Rect.unit (s := S1x4096x256) off' S1x512x128.size inb', k0_pay55 (k0_pay19 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w1 b1)⟩
        :: ⟨Rect.unit (s := S1x4096x256) off S1x512x128.size inb, k0_pay20 (k0_pay13 A W) (k0_pay14 v9 s0) (k0_pay15 s1 (Scalar.select (Scalar.cmpi .eq 8#32 0#32) 1#32 8#32) (Scalar.remsi (Scalar.subi 8#32 v9) (Scalar.select (Scalar.cmpi .eq 8#32 0#32) 1#32 8#32))) (k0_pay16 v9 s2) s3 (Scalar.select (Scalar.cmpi .eq 8#32 0#32) 1#32 8#32) (Scalar.remsi (Scalar.subi 8#32 v9) (Scalar.select (Scalar.cmpi .eq 8#32 0#32) 1#32 8#32)) w0 b0⟩ :: L)) y = pfOf (hrow x2 x3 x5 x6 x7 v9) y := by
  rw [lo_next, hi_next]
  exact pf_step a f L hA hW h0 h1 h2 h3 hw0 hb0 hw1 hb1 hoff hoff' hn hN hge hN' inb inb' hf

/-- `tile_packed` and `pf_step` over the words of the kernel's code (init). -/
theorem lo_init (A : Vec F S1x512x1152 .i8) (W : Vec F S1152x256 .fp8e4m3) (v9 : BitVec 32) (s0 s1 s2 s3 : Vec F S8x128 .f32) (w0 b0 : Vec F S1x128 .f32) :
    k0_pay48 (k0_pay45 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w0 b0) = k0_pay52 (tlo A W v9 s0 s1 s2 s3 w0 b0) := rfl
theorem hi_init (A : Vec F S1x512x1152 .i8) (W : Vec F S1152x256 .fp8e4m3) (v9 : BitVec 32) (s0 s1 s2 s3 : Vec F S8x128 .f32) (w1 b1 : Vec F S1x128 .f32) :
    k0_pay49 (k0_pay46 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w1) b1 = k0_pay52 (thi A W v9 s0 s1 s2 s3 w1 b1) := rfl
theorem pack_init (A : Vec F S1x512x1152 .i8) (W : Vec F S1152x256 .fp8e4m3) (v9 : BitVec 32) (s0 s1 s2 s3 : Vec F S8x128 .f32) (w0 b0 w1 b1 : Vec F S1x128 .f32) :
    k0_pay50 (k0_pay45 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w0 b0) (k0_pay46 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w1) b1 = k0_pay53 (tlo A W v9 s0 s1 s2 s3 w0 b0) (thi A W v9 s0 s1 s2 s3 w1 b1) := rfl
theorem tile_packed_init {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1) :
    k0_pay50 (k0_pay45 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w0 b0) (k0_pay46 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w1) b1 = hblk (hrow x2 x3 x5 x6 x7 v9) t :=
  (pack_init A W v9 s0 s1 s2 s3 w0 b0 w1 b1).trans (tile_packed hA hW h0 h1 h2 h3 hw0 hb0 hw1 hb1)
theorem pf_step_init {sp : Space} (a : Memref sig .tc sp S1x4096x256 .bf16) (f : a.view.ty.Contents (Elt F)) (L : List (View.Piece (Elt F) S1x4096x256 .bf16))
    {x2 : Vec F S1x4096x1152 .i8} {x3 : Vec F S8x4096 .f32} {x5 : Vec F S1152x256 .fp8e4m3} {x6 x7 : Vec F S1x256 .f32} {v9 : BitVec 32} {t : ℕ}
    {A : Vec F S1x512x1152 .i8} (hA : A = x2w x2 t) {W : Vec F S1152x256 .fp8e4m3} (hW : W = x5) {s0 s1 s2 s3 : Vec F S8x128 .f32}
    (h0 : s0 = x3w x3 t 0) (h1 : s1 = x3w x3 t 1) (h2 : s2 = x3w x3 t 2) (h3 : s3 = x3w x3 t 3) {w0 b0 w1 b1 : Vec F S1x128 .f32}
    (hw0 : w0 = x6w x6 0) (hb0 : b0 = x6w x7 0) (hw1 : w1 = x6w x6 1) (hb1 : b1 = x6w x7 1)
    {off off' : Fin 3 → ℕ} {n : ℕ} (hoff : off = ![0, n, 0]) (hoff' : off' = ![0, n, 128]) (hn : n = 512 * t) {N N' : ℕ} (hN : N ≤ 512 * t) (hge : 512 * t ≤ N) (hN' : N' ≤ 512 * t + 512)
    (inb : ∀ x, off x + S1x512x128.size x ≤ S1x4096x256.size x) (inb' : ∀ x, off' x + S1x512x128.size x ≤ S1x4096x256.size x)
    (hf : ∀ y, (y 1).val < N → a.view.read (Elt F) (a.view.writes (Elt F) f L) y = pfOf (hrow x2 x3 x5 x6 x7 v9) y) :
    ∀ y, (y 1).val < N' → a.view.read (Elt F) (a.view.writes (Elt F) f
      (⟨Rect.unit (s := S1x4096x256) off' S1x512x128.size inb', k0_pay49 (k0_pay46 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w1) b1⟩
        :: ⟨Rect.unit (s := S1x4096x256) off S1x512x128.size inb, k0_pay48 (k0_pay45 v9 (k0_pay41 A W) (k0_pay42 s0 (Scalar.subi 8#32 v9) (Scalar.select (Scalar.cmpi .eq 8#32 0#32) 1#32 8#32)) (k0_pay43 v9 s1) s2 (Scalar.select (Scalar.cmpi .eq 8#32 0#32) 1#32 8#32) (Scalar.remsi (Scalar.subi 8#32 v9) (Scalar.select (Scalar.cmpi .eq 8#32 0#32) 1#32 8#32)) (Scalar.cmpi .ne (Scalar.remsi (Scalar.subi 8#32 v9) (Scalar.select (Scalar.cmpi .eq 8#32 0#32) 1#32 8#32)) 0#32) (Scalar.xori (Scalar.cmpi .slt (Scalar.remsi (Scalar.subi 8#32 v9) (Scalar.select (Scalar.cmpi .eq 8#32 0#32) 1#32 8#32)) 0#32) (Scalar.cmpi .slt (Scalar.select (Scalar.cmpi .eq 8#32 0#32) 1#32 8#32) 0#32)) s3 w0 b0)⟩ :: L)) y = pfOf (hrow x2 x3 x5 x6 x7 v9) y := by
  rw [lo_init, hi_init]
  exact pf_step a f L hA hW h0 h1 h2 h3 hw0 hb0 hw1 hb1 hoff hoff' hn hN hge hN' inb inb' hf

end Cert.Proof.KernelIdeal
-- ==== Proof.ValueTile.lean ====
/- The kernel's loop over pairs of tiles: each trip computes a tile while merging the one before it, and writes its point features. -/
module

public import proofs.«01_k».proof.Proof.ValueMerge
public import proofs.«01_k».proof.Proof.Tile

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .smem S8x4096 .i32) (harg1 : arg1.IsWhole)
  (arg2 : Memref sig .tc .vmem S1x4096x1152 .i8) (harg2 : arg2.IsWhole)
  (arg3 : Memref sig .tc .vmem S8x4096 .f32) (harg3 : arg3.IsWhole)
  (arg4 : Memref sig .tc .vmem S8x4096 .i32) (harg4 : arg4.IsWhole)
  (arg5 : Memref sig .tc .vmem S1152x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1100x256 .bf16) (harg8 : arg8.IsWhole)
  (arg9 : Memref sig .tc .vmem S8x1100 .i32) (harg9 : arg9.IsWhole)
  (arg10 : Memref sig .tc .vmem S1x4096x256 .bf16) (harg10 : arg10.IsWhole)
  (arg11 : Memref sig .tc .vmem S512x2x128 .bf16) (harg11 : arg11.IsWhole)
  (arg12 : Memref sig .tc .vmem S512x2x128 .bf16) (harg12 : arg12.IsWhole)
  (arg13 : Memref sig .tc .vmem S1112x2x128 .bf16) (harg13 : arg13.IsWhole)
  (arg14 : Memref sig .tc .vmem S1112x2x128 .bf16) (harg14 : arg14.IsWhole)
  (arg15 : Memref sig .tc .vmem S1112x2x128 .bf16) (harg15 : arg15.IsWhole)
  (arg16 : Memref sig .tc .vmem S1112x2x128 .bf16) (harg16 : arg16.IsWhole)
  (arg17 : Memref sig .tc .vmem S1112x2x128 .bf16) (harg17 : arg17.IsWhole)
  (arg18 : Memref sig .tc .vmem S1112x2x128 .bf16) (harg18 : arg18.IsWhole)
  (arg19 : Memref sig .tc .vmem S1112x2x128 .bf16) (harg19 : arg19.IsWhole)
  (arg20 : Memref sig .tc .vmem S1112x2x128 .bf16) (harg20 : arg20.IsWhole)

/-- Only the last trip computes no further tile. -/
theorem last_trip : ∀ k : Fin k0_t1_loop.trips, ¬ k0_cond1 k = 1#1 → k.val = 3 := by decide +kernel

set_option warn.classDefReducibility false in
set_option maxHeartbeats 16000000 in
/-- Loop `k0_t1`: before trip `k` the point features of the first `1024 * k + 512` points are written, the tile after them is
    packed, and the tables hold the merges of the first `1024 * k` points. -/
def valueInv_k0_t1 (v9 : BitVec 32) (v120 v126 : FVec F S512x128 .f32)
    (x1 : Vec F S8x4096 .i32) (hx : ∀ j, IdOK (x1 j)) (x2 : Vec F S1x4096x1152 .i8) (x3 : Vec F S8x4096 .f32) (x5 : Vec F S1152x256 .fp8e4m3) (x6 x7 : Vec F S1x256 .f32) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 where
  inv k _ := iprop(reads c arg1 x1 ∗ reads c arg2 x2 ∗ reads c arg3 x3 ∗ reads c arg5 x5 ∗ reads c arg6 x6 ∗ reads c arg7 x7
    ∗ (∃ f, held (F := F) c arg10 f ∗ ⌜∀ y, (y 1).val < 1024 * k + 512 → arg10.view.read (Elt F) f y = pfOf (hrow x2 x3 x5 x6 x7 v9) y⌝)
    ∗ (∃ f, held (F := F) c arg11 f ∗ ⌜k < 4 → arg11.view.read (Elt F) f = hblk (hrow x2 x3 x5 x6 x7 v9) (2 * k)⌝)
    ∗ (∃ f, held (F := F) c arg12 f) ∗ tablesAt c arg13 arg14 arg15 arg16 arg17 arg18 arg19 arg20 (idAt x1 ((i 0).val % 8)) (hrow x2 x3 x5 x6 x7 v9) (128 * k))
  step k _ := by
    have hk : k.val < 4 := k.isLt
    unfold k0_t1_body
    simp only [k0_part14_eq_skeleton, k0_part15_eq_skeleton, k0_part16_eq_skeleton, k0_part6_eq_skeleton, k0_part7_eq_skeleton, k0_part8_eq_skeleton]
    iintro ⟨⟨%f1, H1, %e1⟩, ⟨%f2, H2, %e2⟩, ⟨%f3, H3, %e3⟩, ⟨%f5, H5, %e5⟩, ⟨%f6, H6, %e6⟩, ⟨%f7, H7, %e7⟩, ⟨%f10, H10, %e10⟩, ⟨%f11, H11, %e11⟩, ⟨%f12, H12⟩, ⟨%f13, H13, %e13⟩, ⟨%f14, H14, %e14⟩, ⟨%f15, H15, %e15⟩, ⟨%f16, H16, %e16⟩, ⟨%f17, H17, %e17⟩, ⟨%f18, H18, %e18⟩, ⟨%f19, H19, %e19⟩, ⟨%f20, H20, %e20⟩⟩
    sl_exec
    iapply (loop_k0_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k _ x1 hx (hrow x2 x3 x5 x6 x7 v9) (n := 128 * k.val) (by omega) rfl)
    isplitl [H1 H11 H13 H14 H15 H16 H17 H18 H19 H20]
    · isplitl [H1]; · iexists _; isplitl [H1]; iexact H1
                      ipureintro; exact e1
      isplitl [H11]; · iexists _; isplitl [H11]; iexact H11
                       ipureintro; exact e11 hk
      isplitl [H13]; · iexists _; isplitl [H13]; iexact H13
                       ipureintro; exact e13
      isplitl [H14]; · iexists _; isplitl [H14]; iexact H14
                       ipureintro; exact e14
      isplitl [H15]; · iexists _; isplitl [H15]; iexact H15
                       ipureintro; exact e15
      isplitl [H16]; · iexists _; isplitl [H16]; iexact H16
                       ipureintro; exact e16
      isplitl [H17]; · iexists _; isplitl [H17]; iexact H17
                       ipureintro; exact e17
      isplitl [H18]; · iexists _; isplitl [H18]; iexact H18
                       ipureintro; exact e18
      isplitl [H19]; · iexists _; isplitl [H19]; iexact H19
                       ipureintro; exact e19
      iexists _; isplitl [H20]; iexact H20
      ipureintro; exact e20
    iintro %_ ⟨⟨%f1', H1, %e1'⟩, ⟨%f11', H11, %e11'⟩, ⟨%f13', H13, %e13'⟩, ⟨%f14', H14, %e14'⟩, ⟨%f15', H15, %e15'⟩, ⟨%f16', H16, %e16'⟩, ⟨%f17', H17, %e17'⟩, ⟨%f18', H18, %e18'⟩, ⟨%f19', H19, %e19'⟩, ⟨%f20', H20, %e20'⟩⟩
    have hA := ld2 (t := 2 * k.val + 1) arg2 f2 e2 (k0_off1_eq k) (by omega) (k0_off1_inb k)
    have hW : arg5.view.readAt (Elt F) (Rect.unit (s := S1152x256) ![0, 0] S1152x256.size inb_S1152x256_S1152x256_0_0).toLoadRect f5 = x5 :=
      (View.readAt_full arg5.view f5 inb_S1152x256_S1152x256_0_0).trans e5
    have hs0 : arg3.view.readAt (Elt F) (Rect.unit (s := S8x4096) (k0_off2 k 0#32) S8x128.size (k0_off2_inb k 0)).toLoadRect f3 = x3w x3 (2 * k.val + 1) 0 := ld3 (t := 2 * k.val + 1) (m := 0) arg3 f3 e3 (k0_off2_eq k 0) (by show 1024 * k.val + 128 * 0 + 512 = _; omega) (k0_off2_inb k 0)
    have hs1 : arg3.view.readAt (Elt F) (Rect.unit (s := S8x4096) (k0_off2 k 128#32) S8x128.size (k0_off2_inb k 1)).toLoadRect f3 = x3w x3 (2 * k.val + 1) 1 := ld3 (t := 2 * k.val + 1) (m := 1) arg3 f3 e3 (k0_off2_eq k 1) (by show 1024 * k.val + 128 * 1 + 512 = _; omega) (k0_off2_inb k 1)
    have hs2 : arg3.view.readAt (Elt F) (Rect.unit (s := S8x4096) (k0_off2 k 256#32) S8x128.size (k0_off2_inb k 2)).toLoadRect f3 = x3w x3 (2 * k.val + 1) 2 := ld3 (t := 2 * k.val + 1) (m := 2) arg3 f3 e3 (k0_off2_eq k 2) (by show 1024 * k.val + 128 * 2 + 512 = _; omega) (k0_off2_inb k 2)
    have hs3 : arg3.view.readAt (Elt F) (Rect.unit (s := S8x4096) (k0_off2 k 384#32) S8x128.size (k0_off2_inb k 3)).toLoadRect f3 = x3w x3 (2 * k.val + 1) 3 := ld3 (t := 2 * k.val + 1) (m := 3) arg3 f3 e3 (k0_off2_eq k 3) (by show 1024 * k.val + 128 * 3 + 512 = _; omega) (k0_off2_inb k 3)
    have hw0 : arg6.view.readAt (Elt F) (Rect.unit (s := S1x256) ![0, 0] S1x128.size inb_S1x256_S1x128_0_0).toLoadRect f6 = x6w x6 0 := ld6 (q := 0) arg6 f6 e6 rfl rfl inb_S1x256_S1x128_0_0
    have hw1 : arg6.view.readAt (Elt F) (Rect.unit (s := S1x256) ![0, 128] S1x128.size inb_S1x256_S1x128_0_128).toLoadRect f6 = x6w x6 1 := ld6 (q := 1) arg6 f6 e6 rfl rfl inb_S1x256_S1x128_0_128
    have hb0 : arg7.view.readAt (Elt F) (Rect.unit (s := S1x256) ![0, 0] S1x128.size inb_S1x256_S1x128_0_0).toLoadRect f7 = x6w x7 0 := ld6 (q := 0) arg7 f7 e7 rfl rfl inb_S1x256_S1x128_0_0
    have hb1 : arg7.view.readAt (Elt F) (Rect.unit (s := S1x256) ![0, 128] S1x128.size inb_S1x256_S1x128_0_128).toLoadRect f7 = x6w x7 1 := ld6 (q := 1) arg7 f7 e7 rfl rfl inb_S1x256_S1x128_0_128
    have hpf := pf_step_loop (N' := 1024 * k.val + 1024) arg10 f10 [] (v9 := v9) hA hW hs0 hs1 hs2 hs3 hw0 hb0 hw1 hb1 (k0_off3_eq k) (k0_off4_eq k) (by omega) (N := 1024 * k.val + 512) (by omega) (by omega) (by omega)
      (k0_off3_inb k) (k0_off4_inb k) (by rw [View.writes_nil]; exact e10)
    have e12 := (View.read_writes_full arg12.view arg12.view.junk inb_S512x2x128_S512x2x128_0_0_0 _ []).trans
      (tile_packed_loop (v9 := v9) hA hW hs0 hs1 hs2 hs3 hw0 hb0 hw1 hb1)
    by_cases hc : k0_cond1 k = 1#1
    · sl_exec (disch := exact hc)
      iapply (loop_k0_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k _ x1 hx (hrow x2 x3 x5 x6 x7 v9) (n := 128 * k.val + 64) (by omega) rfl)
      isplitl [H1 H12 H13 H14 H15 H16 H17 H18 H19 H20]
      · isplitl [H1]; · iexists _; isplitl [H1]; iexact H1
                        ipureintro; exact e1'
        isplitl [H12]; · iexists _; isplitl [H12]; iexact H12
                         ipureintro; sl_unfold_run_names; exact e12
        isplitl [H13]; · iexists _; isplitl [H13]; iexact H13
                         ipureintro; exact e13'
        isplitl [H14]; · iexists _; isplitl [H14]; iexact H14
                         ipureintro; exact e14'
        isplitl [H15]; · iexists _; isplitl [H15]; iexact H15
                         ipureintro; exact e15'
        isplitl [H16]; · iexists _; isplitl [H16]; iexact H16
                         ipureintro; exact e16'
        isplitl [H17]; · iexists _; isplitl [H17]; iexact H17
                         ipureintro; exact e17'
        isplitl [H18]; · iexists _; isplitl [H18]; iexact H18
                         ipureintro; exact e18'
        isplitl [H19]; · iexists _; isplitl [H19]; iexact H19
                         ipureintro; exact e19'
        iexists _; isplitl [H20]; iexact H20
        ipureintro; exact e20'
      iintro %_ ⟨⟨%f1'', H1, %e1''⟩, ⟨%f12', H12, %e12'⟩, ⟨%f13'', H13, %e13''⟩, ⟨%f14'', H14, %e14''⟩, ⟨%f15'', H15, %e15''⟩, ⟨%f16'', H16, %e16''⟩, ⟨%f17'', H17, %e17''⟩, ⟨%f18'', H18, %e18''⟩, ⟨%f19'', H19, %e19''⟩, ⟨%f20'', H20, %e20''⟩⟩
      have hA' := ld2 (t := 2 * k.val + 2) arg2 f2 e2 (k0_off29_eq k) (by omega) (k0_off29_inb k hc)
      have hs0' : arg3.view.readAt (Elt F) (Rect.unit (s := S8x4096) (k0_off30 k 0#32) S8x128.size (k0_off30_inb k hc 0)).toLoadRect f3 = x3w x3 (2 * k.val + 2) 0 := ld3 (t := 2 * k.val + 2) (m := 0) arg3 f3 e3 (k0_off30_eq k 0) (by show 1024 * k.val + 128 * 0 + 1024 = _; omega) (k0_off30_inb k hc 0)
      have hs1' : arg3.view.readAt (Elt F) (Rect.unit (s := S8x4096) (k0_off30 k 128#32) S8x128.size (k0_off30_inb k hc 1)).toLoadRect f3 = x3w x3 (2 * k.val + 2) 1 := ld3 (t := 2 * k.val + 2) (m := 1) arg3 f3 e3 (k0_off30_eq k 1) (by show 1024 * k.val + 128 * 1 + 1024 = _; omega) (k0_off30_inb k hc 1)
      have hs2' : arg3.view.readAt (Elt F) (Rect.unit (s := S8x4096) (k0_off30 k 256#32) S8x128.size (k0_off30_inb k hc 2)).toLoadRect f3 = x3w x3 (2 * k.val + 2) 2 := ld3 (t := 2 * k.val + 2) (m := 2) arg3 f3 e3 (k0_off30_eq k 2) (by show 1024 * k.val + 128 * 2 + 1024 = _; omega) (k0_off30_inb k hc 2)
      have hs3' : arg3.view.readAt (Elt F) (Rect.unit (s := S8x4096) (k0_off30 k 384#32) S8x128.size (k0_off30_inb k hc 3)).toLoadRect f3 = x3w x3 (2 * k.val + 2) 3 := ld3 (t := 2 * k.val + 2) (m := 3) arg3 f3 e3 (k0_off30_eq k 3) (by show 1024 * k.val + 128 * 3 + 1024 = _; omega) (k0_off30_inb k hc 3)
      sl_step
      isplitl [H1]
      · iexists _; isplitl [H1]; iexact H1
        ipureintro; exact e1''
      isplitl [H2]
      · iexists _; isplitl [H2]; iexact H2
        ipureintro; exact e2
      isplitl [H3]
      · iexists _; isplitl [H3]; iexact H3
        ipureintro; exact e3
      isplitl [H5]
      · iexists _; isplitl [H5]; iexact H5
        ipureintro; exact e5
      isplitl [H6]
      · iexists _; isplitl [H6]; iexact H6
        ipureintro; exact e6
      isplitl [H7]
      · iexists _; isplitl [H7]; iexact H7
        ipureintro; exact e7
      isplitl [H10]
      · iexists _; isplitl [H10]; iexact H10
        ipureintro; sl_unfold_run_names; exact pf_step_next (N' := 1024 * (k.val + 1) + 512) arg10 f10 _ (v9 := v9) hA' rfl hs0' hs1' hs2' hs3' rfl rfl rfl rfl (k0_off31_eq k) (k0_off32_eq k) (by omega) (N := 1024 * k.val + 1024) (by omega) (by omega) (by omega) (k0_off31_inb k hc) (k0_off32_inb k hc) hpf
      isplitl [H11]
      · iexists _; isplitl [H11]; iexact H11
        ipureintro; sl_unfold_run_names; exact fun _ => (View.read_writes_full arg11.view arg11.view.junk inb_S512x2x128_S512x2x128_0_0_0 _ []).trans (tile_packed_next (v9 := v9) hA' rfl hs0' hs1' hs2' hs3' rfl rfl rfl rfl)
      isplitl [H12]; · iexists _; iexact H12
      have hn : 128 * (k.val + 1) = 128 * k.val + 64 + 64 := by omega
      rw [hn]
      isplitl [H13]; · iexists _; isplitl [H13]; iexact H13
                       ipureintro; exact e13''
      isplitl [H14]; · iexists _; isplitl [H14]; iexact H14
                       ipureintro; exact e14''
      isplitl [H15]; · iexists _; isplitl [H15]; iexact H15
                       ipureintro; exact e15''
      isplitl [H16]; · iexists _; isplitl [H16]; iexact H16
                       ipureintro; exact e16''
      isplitl [H17]; · iexists _; isplitl [H17]; iexact H17
                       ipureintro; exact e17''
      isplitl [H18]; · iexists _; isplitl [H18]; iexact H18
                       ipureintro; exact e18''
      isplitl [H19]; · iexists _; isplitl [H19]; iexact H19
                       ipureintro; exact e19''
      iexists _; isplitl [H20]; iexact H20
      ipureintro; exact e20''
    · sl_exec (disch := exact hc)
      iapply (loop_k0_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 k _ x1 hx (hrow x2 x3 x5 x6 x7 v9) (n := 128 * k.val + 64) (by omega) rfl)
      isplitl [H1 H12 H13 H14 H15 H16 H17 H18 H19 H20]
      · isplitl [H1]; · iexists _; isplitl [H1]; iexact H1
                        ipureintro; exact e1'
        isplitl [H12]; · iexists _; isplitl [H12]; iexact H12
                         ipureintro; sl_unfold_run_names; exact e12
        isplitl [H13]; · iexists _; isplitl [H13]; iexact H13
                         ipureintro; exact e13'
        isplitl [H14]; · iexists _; isplitl [H14]; iexact H14
                         ipureintro; exact e14'
        isplitl [H15]; · iexists _; isplitl [H15]; iexact H15
                         ipureintro; exact e15'
        isplitl [H16]; · iexists _; isplitl [H16]; iexact H16
                         ipureintro; exact e16'
        isplitl [H17]; · iexists _; isplitl [H17]; iexact H17
                         ipureintro; exact e17'
        isplitl [H18]; · iexists _; isplitl [H18]; iexact H18
                         ipureintro; exact e18'
        isplitl [H19]; · iexists _; isplitl [H19]; iexact H19
                         ipureintro; exact e19'
        iexists _; isplitl [H20]; iexact H20
        ipureintro; exact e20'
      iintro %_ ⟨⟨%f1'', H1, %e1''⟩, ⟨%f12', H12, %e12'⟩, ⟨%f13'', H13, %e13''⟩, ⟨%f14'', H14, %e14''⟩, ⟨%f15'', H15, %e15''⟩, ⟨%f16'', H16, %e16''⟩, ⟨%f17'', H17, %e17''⟩, ⟨%f18'', H18, %e18''⟩, ⟨%f19'', H19, %e19''⟩, ⟨%f20'', H20, %e20''⟩⟩
      sl_step
      isplitl [H1]
      · iexists _; isplitl [H1]; iexact H1
        ipureintro; exact e1''
      isplitl [H2]
      · iexists _; isplitl [H2]; iexact H2
        ipureintro; exact e2
      isplitl [H3]
      · iexists _; isplitl [H3]; iexact H3
        ipureintro; exact e3
      isplitl [H5]
      · iexists _; isplitl [H5]; iexact H5
        ipureintro; exact e5
      isplitl [H6]
      · iexists _; isplitl [H6]; iexact H6
        ipureintro; exact e6
      isplitl [H7]
      · iexists _; isplitl [H7]; iexact H7
        ipureintro; exact e7
      isplitl [H10]
      · iexists _; isplitl [H10]; iexact H10
        ipureintro; sl_unfold_run_names; exact fun y hy => hpf y (by have : (y 1).val < 4096 := (y 1).isLt; have := last_trip k hc; omega)
      isplitl [H11]
      · iexists _; isplitl [H11]; iexact H11
        ipureintro; exact fun h => absurd (last_trip k hc) (by omega)
      isplitl [H12]; · iexists _; iexact H12
      have hn : 128 * (k.val + 1) = 128 * k.val + 64 + 64 := by omega
      rw [hn]
      isplitl [H13]; · iexists _; isplitl [H13]; iexact H13
                       ipureintro; exact e13''
      isplitl [H14]; · iexists _; isplitl [H14]; iexact H14
                       ipureintro; exact e14''
      isplitl [H15]; · iexists _; isplitl [H15]; iexact H15
                       ipureintro; exact e15''
      isplitl [H16]; · iexists _; isplitl [H16]; iexact H16
                       ipureintro; exact e16''
      isplitl [H17]; · iexists _; isplitl [H17]; iexact H17
                       ipureintro; exact e17''
      isplitl [H18]; · iexists _; isplitl [H18]; iexact H18
                       ipureintro; exact e18''
      isplitl [H19]; · iexists _; isplitl [H19]; iexact H19
                       ipureintro; exact e19''
      iexists _; isplitl [H20]; iexact H20
      ipureintro; exact e20''

/-- The whole loop: from the first tile packed and its point features written to all tiles merged and all point features
    written. -/
theorem loop_k0_t1 (v9 : BitVec 32) (v120 v126 : FVec F S512x128 .f32)
    (x1 : Vec F S8x4096 .i32) (hx : ∀ j, IdOK (x1 j)) (x2 : Vec F S1x4096x1152 .i8) (x3 : Vec F S8x4096 .f32) (x5 : Vec F S1152x256 .fp8e4m3) (x6 x7 : Vec F S1x256 .f32)
    {β : Type} {kk : Unit → Prog (TpuEff nD τ sig (Elt F) Λ₀ .tc) β} {Q : β → sProp 𝕄} :
    iprop((reads c arg1 x1 ∗ reads c arg2 x2 ∗ reads c arg3 x3 ∗ reads c arg5 x5 ∗ reads c arg6 x6 ∗ reads c arg7 x7
    ∗ (∃ f, held (F := F) c arg10 f ∗ ⌜∀ y, (y 1).val < 1024 * 0 + 512 → arg10.view.read (Elt F) f y = pfOf (hrow x2 x3 x5 x6 x7 v9) y⌝)
    ∗ (∃ f, held (F := F) c arg11 f ∗ ⌜0 < 4 → arg11.view.read (Elt F) f = hblk (hrow x2 x3 x5 x6 x7 v9) (2 * 0)⌝)
    ∗ (∃ f, held (F := F) c arg12 f) ∗ tablesAt c arg13 arg14 arg15 arg16 arg17 arg18 arg19 arg20 (idAt x1 ((i 0).val % 8)) (hrow x2 x3 x5 x6 x7 v9) (128 * 0))
      ∗ (∀ acc : Unit, (reads c arg1 x1 ∗ reads c arg2 x2 ∗ reads c arg3 x3 ∗ reads c arg5 x5 ∗ reads c arg6 x6 ∗ reads c arg7 x7
    ∗ (∃ f, held (F := F) c arg10 f ∗ ⌜∀ y, (y 1).val < 1024 * 4 + 512 → arg10.view.read (Elt F) f y = pfOf (hrow x2 x3 x5 x6 x7 v9) y⌝)
    ∗ (∃ f, held (F := F) c arg11 f ∗ ⌜4 < 4 → arg11.view.read (Elt F) f = hblk (hrow x2 x3 x5 x6 x7 v9) (2 * 4)⌝)
    ∗ (∃ f, held (F := F) c arg12 f) ∗ tablesAt c arg13 arg14 arg15 arg16 arg17 arg18 arg19 arg20 (idAt x1 ((i 0).val % 8)) (hrow x2 x3 x5 x6 x7 v9) (128 * 4))
          -∗ wp Idealize.ShloMosaic.frame (wpE defs₀ 𝒱₀ (c : Thread nD τ) none) Set.univ (kk acc) Q))
      ⊢ wp Idealize.ShloMosaic.frame (wpE defs₀ 𝒱₀ (c : Thread nD τ) none) Set.univ
          (k0_t1_loop.for k0_t1_ok PUnit.unit (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126) >>= kk) Q := by
  have ht : Scf.trips k0_t1_loop.lb k0_t1_loop.ub k0_t1_loop.st = 4 := by decide
  have h := BIClass.wand_elim (exec_loop (kk := kk) (Q := Q) Idealize.ShloMosaic.frame (wpE defs₀ 𝒱₀ (c : Thread nD τ) none) Set.univ k0_t1_loop.lb k0_t1_loop.ub k0_t1_loop.st k0_t1_ok PUnit.unit _
      (valueInv_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v120 v126 x1 hx x2 x3 x5 x6 x7))
  rw [ht] at h
  exact h

end Cert.Proof.KernelIdeal
-- ==== Proof.Outs.lean ====
/- What the kernel writes in a scene's voxel features and in its row of the counts. -/
module

public import proofs.«01_k».proof.Proof.Tile
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

/-- The row of its group that scene `a` is, as the kernel computes it. -/
def srow (a : ℕ) : BitVec 32 :=
  let arg0 : BitVec 32 := BitVec.ofNat 32 a
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

theorem srow_eq : ∀ a : Fin 24, srow a.val = BitVec.ofNat 32 (a.val % 8) := by decide +kernel

/-- The entrywise largest of eight tables. -/
def vmax (T : ℕ → Vec F S1112x2x128 .bf16) : FVec F S1112x2x128 .bf16 :=
  maximumf (φ := .bf16) (maximumf (φ := .bf16) (maximumf (φ := .bf16) (maximumf (φ := .bf16) (maximumf (φ := .bf16) (maximumf (φ := .bf16) (maximumf (φ := .bf16) (T 0) (T 1)) (T 2)) (T 3)) (T 4)) (T 5)) (T 6)) (T 7)

/-- The voxel features of a scene, from its eight tables. -/
def vfOf (T : ℕ → Vec F S1112x2x128 .bf16) (y : S1x1100x256.Idx) : Elt F .bf16 :=
  truncf .bf16 (extf .f32 (vmax T)) bitsLt_bf16_f32
    (ix3 (⟨(y 1).val + 8, by have : (y 1).val < 1100 := (y 1).isLt; omega⟩ : Fin 1112) (⟨(y 2).val / 128, by have : (y 2).val < 256 := (y 2).isLt; omega⟩ : Fin 2)
      (⟨(y 2).val % 128, Nat.mod_lt _ (by decide)⟩ : Fin 128))

/-- The part of a table that the kernel reads back. -/
def tail8 (T : Vec F S1112x2x128 .bf16) : Vec F S1104x2x128 .bf16 :=
  fun j => T (ix3 (⟨(j 0).val + 8, by have : (j 0).val < 1104 := (j 0).isLt; omega⟩ : Fin 1112) (j 1 : Fin 2) (j 2 : Fin 128))

/-- A load of a table's rows from 8 on. -/
theorem ld13 {sp : Space} (a : Memref sig .tc sp S1112x2x128 .bf16) (f : a.view.ty.Contents (Elt F)) {X : Vec F S1112x2x128 .bf16} (hX : a.view.read (Elt F) f = X) :
    a.view.readAt (Elt F) (Rect.unit (s := S1112x2x128) ![8, 0, 0] S1104x2x128.size inb_S1112x2x128_S1104x2x128_8_0_0).toLoadRect f = tail8 X := by
  subst hX
  funext j
  show a.view.read (Elt F) f _ = a.view.read (Elt F) f _
  congr 1; funext b; apply Fin.ext
  fin_cases b
  · show 8 + 1 * (j 0).val = (j 0).val + 8; omega
  · show 0 + 1 * (j 1).val = (j 1).val; omega
  · show 0 + 1 * (j 2).val = (j 2).val; omega

/-- A block of pairs of rows, laid out row after row. -/
def flat (x : Vec F S1104x2x128 .bf16) : FVec F S2208x128 .bf16 :=
  interleaveRows S2208x128 (shapeCast S1104x128 (rowsOfParity 0 S1104x1x128 x bitcasts_S1104x2x128_w16_S1104x1x128_w32) shapeCasts_S1104x1x128_S1104x128)
    (shapeCast S1104x128 (rowsOfParity 1 S1104x1x128 x bitcasts_S1104x2x128_w16_S1104x1x128_w32) shapeCasts_S1104x1x128_S1104x128) bitcasts_S2208x128_w16_S1104x128_w32

theorem flat_parity (x : Vec F S1104x2x128 .bf16) (p : Fin 2) (k : S1104x128.Idx) :
    rowsOfParity p S1104x128 (flat x) bitcasts_S2208x128_w16_S1104x128_w32 k = x (ix3 (k 0 : Fin 1104) p (k 1 : Fin 128)) := by
  have hsc : ∀ (v : S1104x1x128.Idx → F .bf16), shapeCast S1104x128 v shapeCasts_S1104x1x128_S1104x128 k = v (ix3 (k 0 : Fin 1104) (0 : Fin 1) (k 1 : Fin 128)) := by
    intro v
    refine shapeCast_apply v _ k _ ?_
    rw [Shape.rowMajor_val_three, Shape.rowMajor_val_two]
    show ((k 0).val * 1 + 0) * 128 + (k 1).val = (k 0).val * 128 + (k 1).val
    omega
  unfold flat
  rw [rowsOfParity_interleaveRows]
  have hp : p = 0 ∨ p = 1 := by omega
  rcases hp with rfl | rfl
  · rw [if_pos rfl, hsc]
    show x _ = x _
    congr 1; funext b; apply Fin.ext; fin_cases b <;> rfl
  · rw [if_neg (by decide), hsc]
    show x _ = x _
    congr 1; funext b; apply Fin.ext; fin_cases b <;> rfl

section Vf
variable (T : ℕ → Vec F S1112x2x128 .bf16)

theorem pay59_parity (p : Fin 2) (k : S1104x128.Idx) :
    rowsOfParity p S1104x128 (k0_pay59 (k0_pay58 (tail8 (T 0)) (tail8 (T 1))) (tail8 (T 2)) (tail8 (T 3)) (tail8 (T 4)) (tail8 (T 5)) (tail8 (T 6)) (tail8 (T 7))) bitcasts_S2208x128_w16_S1104x128_w32 k
      = vmax T (ix3 (⟨(k 0).val + 8, by have : (k 0).val < 1104 := (k 0).isLt; omega⟩ : Fin 1112) p (k 1 : Fin 128)) := by
  have h : ∀ n, T n (ix3 (⟨(k 0).val + 8, by have : (k 0).val < 1104 := (k 0).isLt; omega⟩ : Fin 1112) p (k 1 : Fin 128))
      = rowsOfParity p S1104x128 (flat (tail8 (T n))) bitcasts_S2208x128_w16_S1104x128_w32 k := fun n => (flat_parity (tail8 (T n)) p k).symm
  show _ = FloatOps.maximumf (FloatOps.maximumf (FloatOps.maximumf (FloatOps.maximumf (FloatOps.maximumf (FloatOps.maximumf (FloatOps.maximumf (T 0 _) (T 1 _)) (T 2 _)) (T 3 _)) (T 4 _)) (T 5 _)) (T 6 _)) (T 7 _)
  rw [h, h, h, h, h, h, h, h]
  rfl

/-- The two stores of the voxel features leave the voxel features. -/
theorem vf_writes {sp : Space} (a : Memref sig .tc sp S1x1100x256 .bf16) (f : a.view.ty.Contents (Elt F)) (L : List (View.Piece (Elt F) S1x1100x256 .bf16)) :
    a.view.read (Elt F) (a.view.writes (Elt F) f
      (⟨Rect.unit (s := S1x1100x256) ![0, 0, 128] S1x1100x128.size inb_S1x1100x256_S1x1100x128_0_0_128, k0_pay62 (k0_pay61 (k0_pay58 (tail8 (T 0)) (tail8 (T 1))) (tail8 (T 2)) (tail8 (T 3)) (tail8 (T 4)) (tail8 (T 5)) (tail8 (T 6)) (tail8 (T 7)))⟩
        :: ⟨Rect.unit (s := S1x1100x256) ![0, 0, 0] S1x1100x128.size inb_S1x1100x256_S1x1100x128_0_0_0, k0_pay60 (k0_pay58 (tail8 (T 0)) (tail8 (T 1))) (tail8 (T 2)) (tail8 (T 3)) (tail8 (T 4)) (tail8 (T 5)) (tail8 (T 6)) (tail8 (T 7))⟩ :: L)) = vfOf T := by
  funext y
  have hsc : ∀ (v : FVec F S1104x128 .bf16) (k : S1x1100x128.Idx),
      shapeCast S1x1100x128 (truncf .bf16 (extractStridedSlice S1100x128 ![0, 0] (extf .f32 v) slices_S1104x128_o0_0_S1100x128) bitsLt_bf16_f32) shapeCasts_S1100x128_S1x1100x128 k
        = truncf .bf16 (extf .f32 v) bitsLt_bf16_f32 (ix2 (⟨(k 1).val, by have : (k 1).val < 1100 := (k 1).isLt; omega⟩ : Fin 1104) (k 2 : Fin 128)) := by
    intro v k
    refine (shapeCast_apply (truncf .bf16 (extractStridedSlice S1100x128 ![0, 0] (extf .f32 v) slices_S1104x128_o0_0_S1100x128) bitsLt_bf16_f32) _ k (ix2 (k 1 : Fin 1100) (k 2 : Fin 128)) ?_).trans ?_
    · rw [Shape.rowMajor_val_three, Shape.rowMajor_val_two]
      have : (k 0).val < 1 := (k 0).isLt
      show (k 1).val * 128 + (k 2).val = ((k 0).val * 1100 + (k 1).val) * 128 + (k 2).val
      omega
    · show truncf .bf16 (extf .f32 v) bitsLt_bf16_f32 _ = _
      congr 1; funext b; apply Fin.ext; fin_cases b
      · show 0 + (k 1).val = (k 1).val; omega
      · show 0 + (k 2).val = (k 2).val; omega
  have hel : ∀ (p : Fin 2) (k : S1104x128.Idx),
      truncf .bf16 (extf .f32 (rowsOfParity p S1104x128 (k0_pay59 (k0_pay58 (tail8 (T 0)) (tail8 (T 1))) (tail8 (T 2)) (tail8 (T 3)) (tail8 (T 4)) (tail8 (T 5)) (tail8 (T 6)) (tail8 (T 7))) bitcasts_S2208x128_w16_S1104x128_w32)) bitsLt_bf16_f32 k
        = truncf .bf16 (extf .f32 (vmax T)) bitsLt_bf16_f32 (ix3 (⟨(k 0).val + 8, by have : (k 0).val < 1104 := (k 0).isLt; omega⟩ : Fin 1112) p (k 1 : Fin 128)) := by
    intro p k
    exact congrArg (fun z : F .bf16 => FloatOps.truncf (φ := .f32) .bf16 bitsLt_bf16_f32 (FloatOps.extf .f32 bitsLt_bf16_f32 z)) (pay59_parity T p k)
  have hy0 : (y 0).val < 1 := (y 0).isLt
  have hy1 : (y 1).val < 1100 := (y 1).isLt
  have hy2 : (y 2).val < 256 := (y 2).isLt
  by_cases hc : (y 2).val < 128
  · rw [View.read_writes_cons_unit_of_not_mem a.view f inb_S1x1100x256_S1x1100x128_0_0_128 _ _ y rfl 2 (Or.inl hc),
      View.read_writes_cons_unit_of_mem a.view f inb_S1x1100x256_S1x1100x128_0_0_0 _ _ y (ix3 (0 : Fin 1) (⟨(y 1).val, hy1⟩ : Fin 1100) (⟨(y 2).val, hc⟩ : Fin 128)) rfl (by
        intro b; fin_cases b
        · show (y 0).val = 0 + 0; omega
        · show (y 1).val = 0 + (y 1).val; omega
        · show (y 2).val = 0 + (y 2).val; omega)]
    unfold k0_pay60
    dsimp only
    rw [hsc, hel]
    unfold vfOf
    congr 1; funext b; apply Fin.ext; fin_cases b
    · rfl
    · show 0 = (y 2).val / 128; omega
    · show (y 2).val = (y 2).val % 128; omega
  · rw [View.read_writes_cons_unit_of_mem a.view f inb_S1x1100x256_S1x1100x128_0_0_128 _ _ y (ix3 (0 : Fin 1) (⟨(y 1).val, hy1⟩ : Fin 1100) (⟨(y 2).val - 128, by omega⟩ : Fin 128)) rfl (by
        intro b; fin_cases b
        · show (y 0).val = 0 + 0; omega
        · show (y 1).val = 0 + (y 1).val; omega
        · show (y 2).val = 128 + ((y 2).val - 128); omega)]
    unfold k0_pay62 k0_pay61
    dsimp only
    rw [hsc, hel]
    unfold vfOf
    congr 1; funext b; apply Fin.ext; fin_cases b
    · rfl
    · show 1 = (y 2).val / 128; omega
    · show (y 2).val - 128 = (y 2).val % 128; omega

end Vf

end Cert.Proof.KernelIdeal
-- ==== Proof.Counts.lean ====
/- What the kernel writes in the block of counts: its scene's row, the other rows kept or cleared. -/
module

public import proofs.«01_k».proof.Proof.Outs

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

theorem cond_pos {v9 : BitVec 32} (h : v9 = 0#32) : Scalar.cmpi .ne (Scalar.extui (Scalar.cmpi .eq v9 0#32) : BitVec 32) 0#32 = 1#1 := by
  subst h; decide
theorem cond_neg {v9 : BitVec 32} (h : ¬ v9 = 0#32) : ¬ Scalar.cmpi .ne (Scalar.extui (Scalar.cmpi .eq v9 0#32) : BitVec 32) 0#32 = 1#1 := by
  have : Scalar.cmpi .eq v9 0#32 = 0#1 := by
    show BitVec.ofBool (v9 == 0#32) = 0#1
    rw [beq_eq_false_iff_ne.mpr h]; rfl
  rw [this]; decide

/-- A column of the block of counts: the scene's row from the counts, the others as they were. -/
def colOf (C : IVec S16x128 32) (v9 : BitVec 32) (prev : S8x1100.Idx → BitVec 32) (y : S8x1100.Idx) : BitVec 32 :=
  if BitVec.ofNat 32 (y 0).val = v9 then
    C (ix2 (⟨(y 1).val / 128, by have : (y 1).val < 1100 := (y 1).isLt; omega⟩ : Fin 16) (⟨(y 1).val % 128, Nat.mod_lt _ (by decide)⟩ : Fin 128))
  else prev y

/-- The block of counts after the scene at row `v9`: cleared first at the group's first scene. -/
def cntOf (v9 : BitVec 32) (x4 : Vec F S8x4096 .i32) (prev : Vec F S8x1100 .i32) : Vec F S8x1100 .i32 :=
  colOf (k0_pay63 (F := F) v9 x4) v9 (if v9 = 0#32 then fun _ => 0#32 else prev)

theorem sel_eq {α : Type} (a b : BitVec 32) (x y : α) : Scalar.select (IntOp.cmpi .eq a b) x y = if a = b then x else y := by
  show (if BitVec.ofBool (a == b) = 1#1 then x else y) = _
  by_cases h : a = b
  · subst h; rw [if_pos rfl, if_pos (by simp)]
  · rw [if_neg h, if_neg (by rw [beq_eq_false_iff_ne.mpr h]; decide)]

theorem row_sel (C : IVec S16x128 32) (v9 : BitVec 32) (j : Fin 16) (h : S16x128.Slices ![j.val, 0] S1x128) (ld : IVec S8x128 32) (k : S8x128.Idx) :
    select (cmpi .eq (iota .tc S8x128 32 [0] iota_S8x128_d0_w32) (broadcast S8x128 v9))
      (broadcastTo S8x128 (shapeCast S1x128 (extractStridedSlice S1x128 ![j.val, 0] C h) shapeCasts_S1x128_S1x128) broadcasts_S1x128_S8x128)
      (shapeCast S8x128 ld shapeCasts_S8x128_S8x128) k
      = if BitVec.ofNat 32 (k 0).val = v9 then C (ix2 j (k 1 : Fin 128)) else ld k := by
  show Scalar.select (IntOp.cmpi .eq (BitVec.ofNat 32 (0 * 8 + (k 0).val)) v9) _ _ = _
  rw [sel_eq, Nat.zero_mul, Nat.zero_add]
  by_cases hk : BitVec.ofNat 32 (k 0).val = v9
  · rw [if_pos hk, if_pos hk, shapeCast_self]
    have h1 : (k 1).val < 128 := (k 1).isLt
    refine (broadcastTo_apply (t := S8x128) (extractStridedSlice S1x128 ![j.val, 0] C h) broadcasts_S1x128_S8x128 k (ix2 (0 : Fin 1) (k 1 : Fin 128)) ?_).trans ?_
    · intro a; fin_cases a <;> rfl
    show C _ = C _
    congr 1; funext b; apply Fin.ext; fin_cases b
    · show j.val + 0 = j.val; omega
    · show 0 + (k 1).val = (k 1).val; omega
  · rw [if_neg hk, if_neg hk, shapeCast_self]

section Pays
variable (v9 : BitVec 32) (C : IVec S16x128 32) (ld : IVec S8x128 32) (k : S8x128.Idx)
theorem pay65_apply : k0_pay65 (F := F) v9 C ld k = if BitVec.ofNat 32 (k 0).val = v9 then C (ix2 (0 : Fin 16) (k 1 : Fin 128)) else ld k := row_sel C v9 0 slices_S16x128_o0_0_S1x128 ld k
theorem pay66_apply : k0_pay66 (F := F) v9 C ld k = if BitVec.ofNat 32 (k 0).val = v9 then C (ix2 (1 : Fin 16) (k 1 : Fin 128)) else ld k := row_sel C v9 1 slices_S16x128_o1_0_S1x128 ld k
theorem pay67_apply : k0_pay67 (F := F) v9 C ld k = if BitVec.ofNat 32 (k 0).val = v9 then C (ix2 (2 : Fin 16) (k 1 : Fin 128)) else ld k := row_sel C v9 2 slices_S16x128_o2_0_S1x128 ld k
theorem pay68_apply : k0_pay68 (F := F) v9 C ld k = if BitVec.ofNat 32 (k 0).val = v9 then C (ix2 (3 : Fin 16) (k 1 : Fin 128)) else ld k := row_sel C v9 3 slices_S16x128_o3_0_S1x128 ld k
theorem pay70_apply : k0_pay70 (F := F) v9 (iota .tc S8x128 32 [0] iota_S8x128_d0_w32) (k0_pay69 C) ld k = if BitVec.ofNat 32 (k 0).val = v9 then C (ix2 (4 : Fin 16) (k 1 : Fin 128)) else ld k := row_sel C v9 4 slices_S16x128_o4_0_S1x128 ld k
theorem pay71_apply : k0_pay71 (F := F) v9 C (iota .tc S8x128 32 [0] iota_S8x128_d0_w32) ld k = if BitVec.ofNat 32 (k 0).val = v9 then C (ix2 (5 : Fin 16) (k 1 : Fin 128)) else ld k := row_sel C v9 5 slices_S16x128_o5_0_S1x128 ld k
theorem pay72_apply : k0_pay72 (F := F) v9 C (iota .tc S8x128 32 [0] iota_S8x128_d0_w32) ld k = if BitVec.ofNat 32 (k 0).val = v9 then C (ix2 (6 : Fin 16) (k 1 : Fin 128)) else ld k := row_sel C v9 6 slices_S16x128_o6_0_S1x128 ld k
theorem pay73_apply : k0_pay73 (F := F) v9 C (iota .tc S8x128 32 [0] iota_S8x128_d0_w32) ld k = if BitVec.ofNat 32 (k 0).val = v9 then C (ix2 (7 : Fin 16) (k 1 : Fin 128)) else ld k := row_sel C v9 7 slices_S16x128_o7_0_S1x128 ld k
end Pays

theorem pay1_apply (v9 : BitVec 32) (C : IVec S16x128 32) (ld : Vec F S8x76 .i32) (k : S8x76.Idx) :
    k0_pay1 (F := F) v9 (iota .tc S8x128 32 [0] iota_S8x128_d0_w32) (k0_pay74 C) ld k
      = if BitVec.ofNat 32 (k 0).val = v9 then C (ix2 (8 : Fin 16) (⟨(k 1).val, by have : (k 1).val < 76 := (k 1).isLt; omega⟩ : Fin 128)) else ld k := by
  have h1 : (k 1).val < 76 := (k 1).isLt
  have h := row_sel C v9 8 slices_S16x128_o8_0_S1x128 (fun _ => ld k) (ix2 (k 0 : Fin 8) (⟨(k 1).val, by omega⟩ : Fin 128))
  refine Eq.trans ?_ h
  unfold k0_pay1 k0_pay74
  dsimp only
  rw [shapeCast_self, shapeCast_self, shapeCast_self]
  have e : ∀ (v : IVec S8x128 32), extractStridedSlice S8x76 ![0, 0] v slices_S8x128_o0_0_S8x76 k = v (ix2 (k 0 : Fin 8) (⟨(k 1).val, by omega⟩ : Fin 128)) := by
    intro v
    show v _ = v _
    congr 1; funext b; apply Fin.ext; fin_cases b
    · show 0 + (k 0).val = (k 0).val; omega
    · show 0 + (k 1).val = (k 1).val; omega
  refine (congrArg₂ (fun p q : BitVec 32 => Scalar.select (IntOp.cmpi .eq p v9) q (ld k)) (e _) (e _)).trans ?_
  rfl

section Steps
variable {sp : Space} (a : Memref sig .tc sp S8x1100 .i32)

/-- The stores so far have filled the columns before `n`. -/
def ColsTo (f : a.view.ty.Contents (Elt F)) (L : List (View.Piece (Elt F) S8x1100 .i32)) (C : IVec S16x128 32) (v9 : BitVec 32) (prev : S8x1100.Idx → BitVec 32) (n : ℕ) : Prop :=
  ∀ y : S8x1100.Idx, a.view.read (Elt F) (a.view.writes (Elt F) f L) y = if (y 1).val < n then colOf C v9 prev y else prev y

theorem col_step (j : Fin 8) {n m : ℕ} (hm : m = n + 128) {off : Fin 2 → ℕ} (hoff : off = ![0, n]) (hn : n = 128 * j.val) {inb : ∀ x, off x + S8x128.size x ≤ S8x1100.size x}
    {f : a.view.ty.Contents (Elt F)} {L : List (View.Piece (Elt F) S8x1100 .i32)} {C : IVec S16x128 32} {v9 : BitVec 32} {prev : S8x1100.Idx → BitVec 32}
    {w ld : IVec S8x128 32} (hw : ∀ k, w k = if BitVec.ofNat 32 (k 0).val = v9 then C (ix2 (⟨j.val, by omega⟩ : Fin 16) (k 1 : Fin 128)) else ld k)
    (hld : ∀ k, ld k = prev (ix2 (k 0 : Fin 8) (⟨n + (k 1).val, by have : (k 1).val < 128 := (k 1).isLt; omega⟩ : Fin 1100)))
    (h : ColsTo a f L C v9 prev n) : ColsTo a f (⟨Rect.unit (s := S8x1100) off S8x128.size inb, w⟩ :: L) C v9 prev m := by
  subst hoff hm
  intro y
  have hy0 : (y 0).val < 8 := (y 0).isLt
  have hy1 : (y 1).val < 1100 := (y 1).isLt
  by_cases h1 : (y 1).val < n
  · rw [View.read_writes_cons_unit_of_not_mem a.view f inb _ _ y rfl 1 (Or.inl h1), h y, if_pos h1, if_pos (by omega)]
  · by_cases h2 : (y 1).val < n + 128
    · have hk : (y 1).val - n < 128 := by omega
      rw [View.read_writes_cons_unit_of_mem a.view f inb _ _ y (ix2 (⟨(y 0).val, hy0⟩ : Fin 8) (⟨(y 1).val - n, hk⟩ : Fin 128)) rfl (by
          intro b; fin_cases b
          · show (y 0).val = 0 + (y 0).val; omega
          · show (y 1).val = n + ((y 1).val - n); omega), if_pos h2, hw]
      unfold colOf
      by_cases h3 : BitVec.ofNat 32 (y 0).val = v9
      · rw [if_pos h3, if_pos h3]
        congr 1; funext b; apply Fin.ext; fin_cases b
        · show j.val = (y 1).val / 128; omega
        · show (y 1).val - n = (y 1).val % 128; omega
      · rw [if_neg h3, if_neg h3, hld]
        congr 1; funext b; apply Fin.ext; fin_cases b
        · rfl
        · show n + ((y 1).val - n) = (y 1).val; omega
    · rw [View.read_writes_cons_unit_of_not_mem a.view f inb _ _ y rfl 1 (Or.inr (by show n + 128 ≤ (y 1).val; omega)), h y, if_neg h1, if_neg h2]

/-- One column where the block was loaded as it stood before all stores. -/
theorem col_keep (j : Fin 8) {n m : ℕ} (hm : m = n + 128) {off : Fin 2 → ℕ} (hoff : off = ![0, n]) (hn : n = 128 * j.val) {inb inb' : ∀ x, off x + S8x128.size x ≤ S8x1100.size x}
    {f : a.view.ty.Contents (Elt F)} {L : List (View.Piece (Elt F) S8x1100 .i32)} {C : IVec S16x128 32} {v9 : BitVec 32}
    {w : IVec S8x128 32} (hw : ∀ k, w k = if BitVec.ofNat 32 (k 0).val = v9 then C (ix2 (⟨j.val, by omega⟩ : Fin 16) (k 1 : Fin 128)) else a.view.readAt (Elt F) (Rect.unit (s := S8x1100) off S8x128.size inb').toLoadRect f k)
    (h : ColsTo a f L C v9 (a.view.read (Elt F) f) n) : ColsTo a f (⟨Rect.unit (s := S8x1100) off S8x128.size inb, w⟩ :: L) C v9 (a.view.read (Elt F) f) m := by
  refine col_step a j hm hoff hn hw ?_ h
  subst hoff
  intro k
  show a.view.read (Elt F) f _ = _
  congr 1; funext b; apply Fin.ext; fin_cases b
  · show 0 + 1 * (k 0).val = (k 0).val; omega
  · show n + 1 * (k 1).val = n + (k 1).val; omega

/-- One column where the load met the stores so far. -/
theorem col_cov (j : Fin 8) {n m : ℕ} (hm : m = n + 128) {off : Fin 2 → ℕ} (hoff : off = ![0, n]) (hn : n = 128 * j.val) {inb inb' : ∀ x, off x + S8x128.size x ≤ S8x1100.size x}
    {L : List (View.Piece (Elt F) S8x1100 .i32)} {C : IVec S16x128 32} {v9 : BitVec 32} {prev : S8x1100.Idx → BitVec 32}
    {w : IVec S8x128 32} (hw : ∀ k, w k = if BitVec.ofNat 32 (k 0).val = v9 then C (ix2 (⟨j.val, by omega⟩ : Fin 16) (k 1 : Fin 128)) else a.view.readCov L (Rect.unit (s := S8x1100) off S8x128.size inb').toLoadRect k)
    (h : ∀ f, ColsTo a f L C v9 prev n) : ∀ f, ColsTo a f (⟨Rect.unit (s := S8x1100) off S8x128.size inb, w⟩ :: L) C v9 prev m := by
  intro f
  refine col_step a j hm hoff hn hw ?_ (h f)
  subst hoff
  intro k
  have e : (Rect.unit (s := S8x1100) ![0, n] S8x128.size inb').toLoadRect.idx k = ix2 (k 0 : Fin 8) (⟨n + (k 1).val, by have : (k 1).val < 128 := (k 1).isLt; omega⟩ : Fin 1100) := by
    funext b; apply Fin.ext; fin_cases b
    · show 0 + 1 * (k 0).val = (k 0).val; omega
    · show n + 1 * (k 1).val = n + (k 1).val; omega
  show a.view.read (Elt F) (a.view.writes (Elt F) a.view.junk L) ((Rect.unit (s := S8x1100) ![0, n] S8x128.size inb').toLoadRect.idx k) = _
  rw [e]
  exact (h a.view.junk _).trans (if_neg (by show ¬ n + (k 1).val < n; omega))

theorem last_step {inb : ∀ x, ![0, 1024] x + S8x76.size x ≤ S8x1100.size x}
    {f : a.view.ty.Contents (Elt F)} {L : List (View.Piece (Elt F) S8x1100 .i32)} {C : IVec S16x128 32} {v9 : BitVec 32} {prev : S8x1100.Idx → BitVec 32}
    {w ld : IVec S8x76 32} (hw : ∀ k, w k = if BitVec.ofNat 32 (k 0).val = v9 then C (ix2 (8 : Fin 16) (⟨(k 1).val, by have : (k 1).val < 76 := (k 1).isLt; omega⟩ : Fin 128)) else ld k)
    (hld : ∀ k, ld k = prev (ix2 (k 0 : Fin 8) (⟨1024 + (k 1).val, by have : (k 1).val < 76 := (k 1).isLt; omega⟩ : Fin 1100)))
    (h : ColsTo a f L C v9 prev 1024) : a.view.read (Elt F) (a.view.writes (Elt F) f (⟨Rect.unit (s := S8x1100) ![0, 1024] S8x76.size inb, w⟩ :: L)) = colOf C v9 prev := by
  funext y
  have hy0 : (y 0).val < 8 := (y 0).isLt
  have hy1 : (y 1).val < 1100 := (y 1).isLt
  by_cases h1 : (y 1).val < 1024
  · rw [View.read_writes_cons_unit_of_not_mem a.view f inb _ _ y rfl 1 (Or.inl h1), h y, if_pos h1]
  · have hk : (y 1).val - 1024 < 76 := by omega
    rw [View.read_writes_cons_unit_of_mem a.view f inb _ _ y (ix2 (⟨(y 0).val, hy0⟩ : Fin 8) (⟨(y 1).val - 1024, hk⟩ : Fin 76)) rfl (by
        intro b; fin_cases b
        · show (y 0).val = 0 + (y 0).val; omega
        · show (y 1).val = 1024 + ((y 1).val - 1024); omega), hw]
    unfold colOf
    by_cases h3 : BitVec.ofNat 32 (y 0).val = v9
    · rw [if_pos h3, if_pos h3]
      congr 1; funext b; apply Fin.ext; fin_cases b
      · show 8 = (y 1).val / 128; omega
      · show (y 1).val - 1024 = (y 1).val % 128; omega
    · rw [if_neg h3, if_neg h3, hld]
      congr 1; funext b; apply Fin.ext; fin_cases b
      · rfl
      · show 1024 + ((y 1).val - 1024) = (y 1).val; omega

theorem last_keep {inb inb' : ∀ x, ![0, 1024] x + S8x76.size x ≤ S8x1100.size x}
    {f : a.view.ty.Contents (Elt F)} {L : List (View.Piece (Elt F) S8x1100 .i32)} {C : IVec S16x128 32} {v9 : BitVec 32}
    {w : IVec S8x76 32} (hw : ∀ k, w k = if BitVec.ofNat 32 (k 0).val = v9 then C (ix2 (8 : Fin 16) (⟨(k 1).val, by have : (k 1).val < 76 := (k 1).isLt; omega⟩ : Fin 128)) else a.view.readAt (Elt F) (Rect.unit (s := S8x1100) ![0, 1024] S8x76.size inb').toLoadRect f k)
    (h : ColsTo a f L C v9 (a.view.read (Elt F) f) 1024) :
    a.view.read (Elt F) (a.view.writes (Elt F) f (⟨Rect.unit (s := S8x1100) ![0, 1024] S8x76.size inb, w⟩ :: L)) = colOf C v9 (a.view.read (Elt F) f) := by
  refine last_step a hw ?_ h
  intro k
  show a.view.read (Elt F) f _ = _
  congr 1; funext b; apply Fin.ext; fin_cases b
  · show 0 + 1 * (k 0).val = (k 0).val; omega
  · show 1024 + 1 * (k 1).val = 1024 + (k 1).val; omega

theorem last_cov {inb inb' : ∀ x, ![0, 1024] x + S8x76.size x ≤ S8x1100.size x}
    {f : a.view.ty.Contents (Elt F)} {L : List (View.Piece (Elt F) S8x1100 .i32)} {C : IVec S16x128 32} {v9 : BitVec 32} {prev : S8x1100.Idx → BitVec 32}
    {w : IVec S8x76 32} (hw : ∀ k, w k = if BitVec.ofNat 32 (k 0).val = v9 then C (ix2 (8 : Fin 16) (⟨(k 1).val, by have : (k 1).val < 76 := (k 1).isLt; omega⟩ : Fin 128)) else a.view.readCov L (Rect.unit (s := S8x1100) ![0, 1024] S8x76.size inb').toLoadRect k)
    (h : ∀ f, ColsTo a f L C v9 prev 1024) :
    a.view.read (Elt F) (a.view.writes (Elt F) f (⟨Rect.unit (s := S8x1100) ![0, 1024] S8x76.size inb, w⟩ :: L)) = colOf C v9 prev := by
  refine last_step a hw ?_ (h f)
  intro k
  have e : (Rect.unit (s := S8x1100) ![0, 1024] S8x76.size inb').toLoadRect.idx k = ix2 (k 0 : Fin 8) (⟨1024 + (k 1).val, by have : (k 1).val < 76 := (k 1).isLt; omega⟩ : Fin 1100) := by
    funext b; apply Fin.ext; fin_cases b
    · show 0 + 1 * (k 0).val = (k 0).val; omega
    · show 1024 + 1 * (k 1).val = 1024 + (k 1).val; omega
  show a.view.read (Elt F) (a.view.writes (Elt F) a.view.junk L) ((Rect.unit (s := S8x1100) ![0, 1024] S8x76.size inb').toLoadRect.idx k) = _
  rw [e]
  exact (h a.view.junk _).trans (if_neg (by show ¬ 1024 + (k 1).val < 1024; omega))

/-- Before any column is stored the block is as it was. -/
theorem cols_start (f : a.view.ty.Contents (Elt F)) (C : IVec S16x128 32) (v9 : BitVec 32) : ColsTo a f [] C v9 (a.view.read (Elt F) f) 0 := by
  intro y; rw [View.writes_nil, if_neg (by omega)]
/-- Or cleared. -/
theorem cols_zero {inb : ∀ x, ![0, 0] x + S8x1100.size x ≤ S8x1100.size x} (C : IVec S16x128 32) (v9 : BitVec 32) : ∀ f : a.view.ty.Contents (Elt F),
    ColsTo a f [⟨Rect.unit (s := S8x1100) ![0, 0] S8x1100.size inb, k0_pay64⟩] C v9 (fun _ => 0#32) 0 := by
  intro f y
  rw [View.read_writes_full a.view f inb _ [], if_neg (by omega)]
  rfl

theorem cnt_eq_pos {v9 : BitVec 32} (h : v9 = 0#32) {x4 ld4 : Vec F S8x4096 .i32} (h4 : ld4 = x4) (d9 : Vec F S8x1100 .i32) :
    colOf (k0_pay63 (F := F) v9 ld4) v9 (fun _ => 0#32) = cntOf v9 x4 d9 := by
  subst h4; unfold cntOf; rw [if_pos h]
theorem cnt_eq_neg {v9 : BitVec 32} (h : ¬ v9 = 0#32) {x4 ld4 : Vec F S8x4096 .i32} (h4 : ld4 = x4) {d9 e9 : Vec F S8x1100 .i32} (h9 : e9 = d9) :
    colOf (k0_pay63 (F := F) v9 ld4) v9 e9 = cntOf v9 x4 d9 := by
  subst h4 h9; unfold cntOf; rw [if_neg h]
end Steps

end Cert.Proof.KernelIdeal
-- ==== Proof.ValueBody.lean ====
/- The kernel's body on whole memrefs, with what it leaves in its three outputs. -/
module

public import proofs.«01_k».proof.Proof.ValueTile
public import proofs.«01_k».proof.Proof.Outs
public import proofs.«01_k».proof.Proof.Counts

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 16000000 in
/-- The body runs with its inputs kept; it leaves the scene's voxel features, its row of the counts and its point features. -/
theorem value_kernel (c : Dev nD) (i : grid0.Coords)
  (arg1 : Memref sig .tc .smem S8x4096 .i32) (harg1 : arg1.IsWhole)
  (arg2 : Memref sig .tc .vmem S1x4096x1152 .i8) (harg2 : arg2.IsWhole)
  (arg3 : Memref sig .tc .vmem S8x4096 .f32) (harg3 : arg3.IsWhole)
  (arg4 : Memref sig .tc .vmem S8x4096 .i32) (harg4 : arg4.IsWhole)
  (arg5 : Memref sig .tc .vmem S1152x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1100x256 .bf16) (harg8 : arg8.IsWhole)
  (arg9 : Memref sig .tc .vmem S8x1100 .i32) (harg9 : arg9.IsWhole)
  (arg10 : Memref sig .tc .vmem S1x4096x256 .bf16) (harg10 : arg10.IsWhole)
  (arg11 : Memref sig .tc .vmem S512x2x128 .bf16) (harg11 : arg11.IsWhole)
  (arg12 : Memref sig .tc .vmem S512x2x128 .bf16) (harg12 : arg12.IsWhole)
  (arg13 : Memref sig .tc .vmem S1112x2x128 .bf16) (harg13 : arg13.IsWhole)
  (arg14 : Memref sig .tc .vmem S1112x2x128 .bf16) (harg14 : arg14.IsWhole)
  (arg15 : Memref sig .tc .vmem S1112x2x128 .bf16) (harg15 : arg15.IsWhole)
  (arg16 : Memref sig .tc .vmem S1112x2x128 .bf16) (harg16 : arg16.IsWhole)
  (arg17 : Memref sig .tc .vmem S1112x2x128 .bf16) (harg17 : arg17.IsWhole)
  (arg18 : Memref sig .tc .vmem S1112x2x128 .bf16) (harg18 : arg18.IsWhole)
  (arg19 : Memref sig .tc .vmem S1112x2x128 .bf16) (harg19 : arg19.IsWhole)
  (arg20 : Memref sig .tc .vmem S1112x2x128 .bf16) (harg20 : arg20.IsWhole)
    (x1 : Vec F S8x4096 .i32) (x2 : Vec F S1x4096x1152 .i8) (x3 : Vec F S8x4096 .f32) (x4 : Vec F S8x4096 .i32) (x5 : Vec F S1152x256 .fp8e4m3) (x6 : Vec F S1x256 .f32) (x7 : Vec F S1x256 .f32) (d9 : Vec F S8x1100 .i32) (hx : ∀ j, IdOK (x1 j)) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (vfOf (fun k => tab (idAt x1 ((i 0).val % 8)) (hrow x2 x3 x5 x6 x7 (srow (i 0).val)) k 512))
            ∗ owns (c : Thread nD τ) arg9 fullShare (cntOf (srow (i 0).val) x4 d9) ∗ owns (c : Thread nD τ) arg10 fullShare (pfOf (hrow x2 x3 x5 x6 x7 (srow (i 0).val))) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ Q ⟨⟩))
      ⊢ wp frame (wpE (defs₀ (F := F)) Variants.none c none) Set.univ (cc0_voxel_pfn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_voxel_pfn_eq_skeleton]; unfold cc0_voxel_pfn_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  sl_exec
  iapply (loop_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ x1 hx x2 x3 x5 x6 x7)
  isplitl [H1 H2 H3 H5 H6 H7 H10 H11 H12 H13 H14 H15 H16 H17 H18 H19 H20]
  · have hA := ld2 (t := 0) arg2 f2 e2 (off := ![0, 0, 0]) rfl rfl inb_S1x4096x1152_S1x512x1152_0_0_0
    have hW : arg5.view.readAt (Elt F) (Rect.unit (s := S1152x256) ![0, 0] S1152x256.size inb_S1152x256_S1152x256_0_0).toLoadRect f5 = x5 :=
      (View.readAt_full arg5.view f5 inb_S1152x256_S1152x256_0_0).trans e5
    have hs0 : arg3.view.readAt (Elt F) (Rect.unit (s := S8x4096) ![0, 0] S8x128.size inb_S8x4096_S8x128_0_0).toLoadRect f3 = x3w x3 0 0 := ld3 (t := 0) (m := 0) arg3 f3 e3 rfl rfl inb_S8x4096_S8x128_0_0
    have hs1 : arg3.view.readAt (Elt F) (Rect.unit (s := S8x4096) ![0, 128] S8x128.size inb_S8x4096_S8x128_0_128).toLoadRect f3 = x3w x3 0 1 := ld3 (t := 0) (m := 1) arg3 f3 e3 rfl rfl inb_S8x4096_S8x128_0_128
    have hs2 : arg3.view.readAt (Elt F) (Rect.unit (s := S8x4096) ![0, 256] S8x128.size inb_S8x4096_S8x128_0_256).toLoadRect f3 = x3w x3 0 2 := ld3 (t := 0) (m := 2) arg3 f3 e3 rfl rfl inb_S8x4096_S8x128_0_256
    have hs3 : arg3.view.readAt (Elt F) (Rect.unit (s := S8x4096) ![0, 384] S8x128.size inb_S8x4096_S8x128_0_384).toLoadRect f3 = x3w x3 0 3 := ld3 (t := 0) (m := 3) arg3 f3 e3 rfl rfl inb_S8x4096_S8x128_0_384
    have hw0 : arg6.view.readAt (Elt F) (Rect.unit (s := S1x256) ![0, 0] S1x128.size inb_S1x256_S1x128_0_0).toLoadRect f6 = x6w x6 0 := ld6 (q := 0) arg6 f6 e6 rfl rfl inb_S1x256_S1x128_0_0
    have hw1 : arg6.view.readAt (Elt F) (Rect.unit (s := S1x256) ![0, 128] S1x128.size inb_S1x256_S1x128_0_128).toLoadRect f6 = x6w x6 1 := ld6 (q := 1) arg6 f6 e6 rfl rfl inb_S1x256_S1x128_0_128
    have hb0 : arg7.view.readAt (Elt F) (Rect.unit (s := S1x256) ![0, 0] S1x128.size inb_S1x256_S1x128_0_0).toLoadRect f7 = x6w x7 0 := ld6 (q := 0) arg7 f7 e7 rfl rfl inb_S1x256_S1x128_0_0
    have hb1 : arg7.view.readAt (Elt F) (Rect.unit (s := S1x256) ![0, 128] S1x128.size inb_S1x256_S1x128_0_128).toLoadRect f7 = x6w x7 1 := ld6 (q := 1) arg7 f7 e7 rfl rfl inb_S1x256_S1x128_0_128
    isplitl [H1]
    · iexists _; isplitl [H1]; iexact H1
      ipureintro; exact e1
    isplitl [H2]
    · iexists _; isplitl [H2]; iexact H2
      ipureintro; exact e2
    isplitl [H3]
    · iexists _; isplitl [H3]; iexact H3
      ipureintro; exact e3
    isplitl [H5]
    · iexists _; isplitl [H5]; iexact H5
      ipureintro; exact e5
    isplitl [H6]
    · iexists _; isplitl [H6]; iexact H6
      ipureintro; exact e6
    isplitl [H7]
    · iexists _; isplitl [H7]; iexact H7
      ipureintro; exact e7
    isplitl [H10]
    · iexists _; isplitl [H10]; iexact H10
      ipureintro; sl_unfold_run_names; exact pf_step_init (N' := 1024 * 0 + 512) arg10 f10 [] hA hW hs0 hs1 hs2 hs3 hw0 hb0 hw1 hb1 rfl rfl rfl (N := 0) (by omega) (by omega) (by omega) inb_S1x4096x256_S1x512x128_0_0_0 inb_S1x4096x256_S1x512x128_0_0_128 (fun y hy => absurd hy (by omega))
    isplitl [H11]
    · iexists _; isplitl [H11]; iexact H11
      ipureintro; sl_unfold_run_names; exact fun _ => (View.read_writes_full arg11.view _ inb_S512x2x128_S512x2x128_0_0_0 _ []).trans (tile_packed_init hA hW hs0 hs1 hs2 hs3 hw0 hb0 hw1 hb1)
    isplitl [H12]; · iexists _; iexact H12
    isplitl [H13]
    · iexists _; isplitl [H13]; iexact H13
      ipureintro; exact View.read_writes_full _ _ _ _ []
    isplitl [H14]
    · iexists _; isplitl [H14]; iexact H14
      ipureintro; exact View.read_writes_full _ _ _ _ []
    isplitl [H15]
    · iexists _; isplitl [H15]; iexact H15
      ipureintro; exact View.read_writes_full _ _ _ _ []
    isplitl [H16]
    · iexists _; isplitl [H16]; iexact H16
      ipureintro; exact View.read_writes_full _ _ _ _ []
    isplitl [H17]
    · iexists _; isplitl [H17]; iexact H17
      ipureintro; exact View.read_writes_full _ _ _ _ []
    isplitl [H18]
    · iexists _; isplitl [H18]; iexact H18
      ipureintro; exact View.read_writes_full _ _ _ _ []
    isplitl [H19]
    · iexists _; isplitl [H19]; iexact H19
      ipureintro; exact View.read_writes_full _ _ _ _ []
    iexists _; isplitl [H20]; iexact H20
    ipureintro; exact View.read_writes_full _ _ _ _ []
  iintro %_ ⟨⟨%f1', H1, %e1'⟩, ⟨%f2', H2, %e2'⟩, ⟨%f3', H3, %e3'⟩, ⟨%f5', H5, %e5'⟩, ⟨%f6', H6, %e6'⟩, ⟨%f7', H7, %e7'⟩, ⟨%f10', H10, %e10'⟩, ⟨%f11', H11, %e11'⟩, ⟨%f12', H12⟩, ⟨%f13', H13, %e13'⟩, ⟨%f14', H14, %e14'⟩, ⟨%f15', H15, %e15'⟩, ⟨%f16', H16, %e16'⟩, ⟨%f17', H17, %e17'⟩, ⟨%f18', H18, %e18'⟩, ⟨%f19', H19, %e19'⟩, ⟨%f20', H20, %e20'⟩⟩
  have t13 := ld13 arg13 f13' e13'
  have t14 := ld13 arg14 f14' e14'
  have t15 := ld13 arg15 f15' e15'
  have t16 := ld13 arg16 f16' e16'
  have t17 := ld13 arg17 f17' e17'
  have t18 := ld13 arg18 f18' e18'
  have t19 := ld13 arg19 f19' e19'
  have t20 := ld13 arg20 f20' e20'
  by_cases hz : srow (i 0).val = 0#32
  · sl_exec (disch := exact cond_pos hz)
    sl_step
    iapply Hk
    isplitl [H1]
    · iexists _; isplitr; swap; · iexact H1
      ipureintro; exact e1'
    isplitl [H2]
    · iexists _; isplitr; swap; · iexact H2
      ipureintro; exact e2'
    isplitl [H3]
    · iexists _; isplitr; swap; · iexact H3
      ipureintro; exact e3'
    isplitl [H4]
    · iexists _; isplitr; swap; · iexact H4
      ipureintro; exact e4
    isplitl [H5]
    · iexists _; isplitr; swap; · iexact H5
      ipureintro; exact e5'
    isplitl [H6]
    · iexists _; isplitr; swap; · iexact H6
      ipureintro; exact e6'
    isplitl [H7]
    · iexists _; isplitr; swap; · iexact H7
      ipureintro; exact e7'
    isplitl [H8]
    · iexists _; isplitr; swap; · iexact H8
      ipureintro; sl_unfold_run_names; exact vf_writes (fun k => tab (idAt x1 ((i 0).val % 8)) (hrow x2 x3 x5 x6 x7 (srow (i 0).val)) k 512) arg8 _ []
    isplitl [H9]
    · iexists _; isplitr; swap; · iexact H9
      ipureintro; sl_unfold_run_names; exact (last_cov arg9 (pay1_apply _ _ _) (col_cov arg9 7 rfl rfl rfl (pay73_apply _ _ _) (col_cov arg9 6 rfl rfl rfl (pay72_apply _ _ _) (col_cov arg9 5 rfl rfl rfl (pay71_apply _ _ _) (col_cov arg9 4 rfl rfl rfl (pay70_apply _ _ _) (col_cov arg9 3 rfl rfl rfl (pay68_apply _ _ _) (col_cov arg9 2 rfl rfl rfl (pay67_apply _ _ _) (col_cov arg9 1 rfl rfl rfl (pay66_apply _ _ _) (col_cov arg9 0 rfl rfl rfl (pay65_apply _ _ _) (cols_zero arg9 _ _)))))))))).trans (cnt_eq_pos hz ((View.readAt_full _ _ _).trans e4) d9)
    isplitl [H10]
    · iexists _; isplitr; swap; · iexact H10
      ipureintro; exact funext fun y => e10' y (by have : (y 1).val < 4096 := (y 1).isLt; omega)
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl
  · sl_exec (disch := exact cond_neg hz)
    sl_step
    iapply Hk
    isplitl [H1]
    · iexists _; isplitr; swap; · iexact H1
      ipureintro; exact e1'
    isplitl [H2]
    · iexists _; isplitr; swap; · iexact H2
      ipureintro; exact e2'
    isplitl [H3]
    · iexists _; isplitr; swap; · iexact H3
      ipureintro; exact e3'
    isplitl [H4]
    · iexists _; isplitr; swap; · iexact H4
      ipureintro; exact e4
    isplitl [H5]
    · iexists _; isplitr; swap; · iexact H5
      ipureintro; exact e5'
    isplitl [H6]
    · iexists _; isplitr; swap; · iexact H6
      ipureintro; exact e6'
    isplitl [H7]
    · iexists _; isplitr; swap; · iexact H7
      ipureintro; exact e7'
    isplitl [H8]
    · iexists _; isplitr; swap; · iexact H8
      ipureintro; sl_unfold_run_names; exact vf_writes (fun k => tab (idAt x1 ((i 0).val % 8)) (hrow x2 x3 x5 x6 x7 (srow (i 0).val)) k 512) arg8 _ []
    isplitl [H9]
    · iexists _; isplitr; swap; · iexact H9
      ipureintro; sl_unfold_run_names; exact (last_keep arg9 (pay1_apply _ _ _) (col_keep arg9 7 rfl rfl rfl (pay73_apply _ _ _) (col_keep arg9 6 rfl rfl rfl (pay72_apply _ _ _) (col_keep arg9 5 rfl rfl rfl (pay71_apply _ _ _) (col_keep arg9 4 rfl rfl rfl (pay70_apply _ _ _) (col_keep arg9 3 rfl rfl rfl (pay68_apply _ _ _) (col_keep arg9 2 rfl rfl rfl (pay67_apply _ _ _) (col_keep arg9 1 rfl rfl rfl (pay66_apply _ _ _) (col_keep arg9 0 rfl rfl rfl (pay65_apply _ _ _) (cols_start arg9 _ _ _)))))))))).trans (cnt_eq_neg hz ((View.readAt_full _ _ _).trans e4) e9)
    isplitl [H10]
    · iexists _; isplitr; swap; · iexact H10
      ipureintro; exact funext fun y => e10' y (by have : (y 1).val < 4096 := (y 1).isLt; omega)
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Proof.KernelIdeal

end
-- ==== Proof.ValueFrame.lean ====
/- The run of the idealized kernel: its pipeline's proof data, with what each grid point leaves in the three output windows, the
   body obligation, the run, and the claim that it terminates with its arguments unchanged and every semaphore at zero. -/
module

public import proofs.«01_k».proof.Defs
public import proofs.«01_k».proof.Proof.Ids
public import proofs.«01_k».proof.Proof.Gen.KernelIdeal.Frame
public import proofs.«01_k».proof.Proof.ValueBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N24 : cfg0.N = 24 := N_0
theorem coords_val : ∀ t : Fin cfg0.N, (grid0.coords t 0).val = t.val :=
  (by decide +kernel : ∀ t : Fin grid0.N, (grid0.coords t 0).val = t.val)

/-- What the counts' window holds after point `n`: the rows of the group's scenes up to it. -/
def cntAt (c : Dev nD) : ℕ → Vec F S8x1100 .i32
  | 0 => cntOf (srow 0) (iblk m c 3 ⟨0, by decide⟩) (fun _ => 0#32)
  | n + 1 => cntOf (srow (n + 1)) (iblk m c 3 ⟨(n + 1) % 24, Nat.mod_lt _ (by decide)⟩) (cntAt c n)

/-- The proof data: the arrays as the region finds them, each input's buffer at its block, the outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => vfOf (fun k => tab (idAt (iblk m c 0 t) ((grid0.coords t 0).val % 8)) (hrow (iblk m c 1 t) (iblk m c 2 t) (iblk m c 4 t) (iblk m c 5 t) (iblk m c 6 t) (srow (grid0.coords t 0).val)) k 512)
    | ⟨8, _⟩ => cntAt m c t.val
    | ⟨9, _⟩ => pfOf (hrow (iblk m c 1 t) (iblk m c 2 t) (iblk m c 4 t) (iblk m c 5 t) (iblk m c 6 t) (srow (grid0.coords t 0).val))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = vfOf (fun k => tab (idAt (iblk m c 0 t) ((grid0.coords t 0).val % 8)) (hrow (iblk m c 1 t) (iblk m c 2 t) (iblk m c 4 t) (iblk m c 5 t) (iblk m c 6 t) (srow (grid0.coords t 0).val)) k 512) := by dsimp only [dats]
theorem after_8 (c : Dev nD) (t : Fin cfg0.N) : (dats m 0 c).after 8 t = cntAt m c t.val := by dsimp only [dats]
theorem after_9 (c : Dev nD) (t : Fin cfg0.N) : (dats m 0 c).after 9 t = pfOf (hrow (iblk m c 1 t) (iblk m c 2 t) (iblk m c 4 t) (iblk m c 5 t) (iblk m c 6 t) (srow (grid0.coords t 0).val)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem srow_zero : ∀ a : Fin 24, srow a.val = 0#32 ↔ a.val % 8 = 0 := by
  intro a; rw [srow_eq]; revert a; decide

/-- What the body makes of the counts' window at a point is what the window holds after it. -/
theorem cnt_step (c : Dev nD) (t : Fin cfg0.N) (d) :
    cntOf (srow (grid0.coords t 0).val) (iblk m c 3 t) ((dats m 0 c).before 8 t d) = cntAt m c t.val := by
  rw [coords_val]
  have hN : t.val < 24 := N24 ▸ t.isLt
  obtain ⟨tv, htv⟩ := t
  have reset : tv % 8 = 0 → ∀ x d d', cntOf (F := F) (srow tv) x d = cntOf (srow tv) x d' := by
    intro h x d d'
    have h0 := (srow_zero ⟨tv, hN⟩).mpr h
    unfold cntOf; rw [if_pos h0, if_pos h0]
  cases tv with
  | zero => exact reset rfl _ _ _
  | succ n =>
    have e : (⟨(n + 1) % 24, Nat.mod_lt _ (by decide)⟩ : Fin cfg0.N) = ⟨n + 1, htv⟩ := Fin.ext (Nat.mod_eq_of_lt hN)
    show _ = cntOf (srow (n + 1)) (iblk m c 3 ⟨(n + 1) % 24, _⟩) (cntAt m c n)
    rw [e]
    by_cases h : (n + 1) % 8 = 0
    · exact reset h _ _ _
    · have hfl : (cfg0.win 8).flush ⟨n + 1 - 1, Nat.lt_of_le_of_lt (Nat.sub_le _ _) htv⟩ = false := by
        rw [Bool.eq_false_iff]; intro hf
        have := (flush0_8 _).mp hf
        simp only [Nat.add_sub_cancel] at this; omega
      have hb := (dats m 0 c).before_out_kept 8 rfl ⟨n + 1, htv⟩ (Nat.succ_ne_zero n) hfl (fun _ => rfl) (fun _ _ => rfl) d
      rw [hb, after_8]; rfl

/-- The ids' block holds words that name table rows when the ids' array does. -/
theorem ids_block (c : Dev nD) (hid : ∀ j, IdOK (m ((c : Thread nD τ).loc main_arg5) j)) (t : Fin cfg0.N) (j) : IdOK (iblk m c 0 t j) := by
  have hV : ∀ j, IdOK (V m c main_arg5 j) := by rw [V_main_arg5]; exact hid
  exact hV _

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The invariant between points: the ten scratch buffers at some contents and the generator register at some state. -/
theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

set_option maxHeartbeats 2000000 in
/-- The body at any point. -/
theorem sound_body (c : Dev nD) (hid : ∀ j, IdOK (m ((c : Thread nD τ).loc main_arg5) j)) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq, after_0, after_1, after_2, after_3, after_4, after_5, after_6, after_7, after_8, after_9]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← cnt_step m c t d8]
  iapply (value_kernel c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) (ids_block m c hid t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) (hid : ∀ j, IdOK (m ((c : Thread nD τ).loc main_arg5) j)) :
    BodyObligation (dats (F := F) m 0 c) (defs₀ (F := F)) Variants.none () Set.univ := fun t => by
  rw [bigSep_W0, bigSep_W0, defs₀_row]
  exact triple_restated (sound_body m c hid t) rfl .rfl fun _ => .rfl

set_option backward.isDefEq.respectTransparency.types false in
set_option maxHeartbeats 800000 in
/-- The run: it terminates, each array is as the pipeline leaves it, and every semaphore counter is zero. -/
theorem run_main (hid : ∀ (c : Dev nD) j, IdOK (m ((c : Thread nD τ).loc main_arg5) j)) :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c (hid c)).loose) (hq := fun _ _ _ => rfl)
    (howed := fun _ _ => rfl) (V := V m) (hmain := hmain m Variants.none) (hA := A_eq m) (hΦ := fun _ _ => rfl)

/-- The kernel terminates, its arguments end unchanged and every semaphore counter is zero. -/
theorem frame (hid : ∀ (c : Dev nD) j, IdOK (m ((c : Thread nD τ).loc main_arg5) j)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 4).trans (((dats m 0 c).arrAt_in 4 rfl _).trans ((A_eq m c 4).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 3).trans (((dats m 0 c).arrAt_in 3 rfl _).trans ((A_eq m c 3).trans (V_main_arg5 m c)))⟩, h.2⟩) (run_main m ρ hid)

end Cert.Proof.KernelIdeal

end
-- ==== Proof.Blocks.lean ====
/- What each window of the idealized kernel reads and writes at a grid point, as entries of its array. -/
module

public import proofs.«01_k».proof.Proof.ValueFrame
public import Idealize.ShloMosaic.Lib.Pipeline.Value
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The kernel's arguments, as arrays. -/
def A0 (c : Dev nD) : Vec F S24x4096x1152 .i8 := m ((c : Thread nD τ).loc main_arg0)
def A1 (c : Dev nD) : Vec F S24x4096 .f32 := m ((c : Thread nD τ).loc main_arg1)
def A2 (c : Dev nD) : Vec F S1152x256 .fp8e4m3 := m ((c : Thread nD τ).loc main_arg2)
def A3 (c : Dev nD) : Vec F S256 .f32 := m ((c : Thread nD τ).loc main_arg3)
def A4 (c : Dev nD) : Vec F S256 .f32 := m ((c : Thread nD τ).loc main_arg4)
def A5 (c : Dev nD) : Vec F S24x4096 .i32 := m ((c : Thread nD τ).loc main_arg5)

/-- The scene of a grid point. -/
def sc (t : Fin cfg0.N) : Fin 24 := ⟨t.val, N24 ▸ t.isLt⟩

/-- Scene `r` of a grid point's group of eight. -/
def grp (t : Fin cfg0.N) (r : Fin 8) : Fin 24 := ⟨8 * (t.val / 8) + r.val, by have h : t.val < 24 := N24 ▸ t.isLt; have := r.isLt; omega⟩

theorem ix_0 : ∀ t : Fin cfg0.N, win0_0.index t (0 : Fin 2) = t.val / 8 ∧ win0_0.index t (1 : Fin 2) = 0 := (by decide +kernel : ∀ t : Fin grid0.N, _)
theorem ix_1 : ∀ t : Fin cfg0.N, win0_1.index t (0 : Fin 3) = t.val ∧ win0_1.index t (1 : Fin 3) = 0 ∧ win0_1.index t (2 : Fin 3) = 0 := (by decide +kernel : ∀ t : Fin grid0.N, _)
theorem ix_2 : ∀ t : Fin cfg0.N, win0_2.index t (0 : Fin 2) = t.val / 8 ∧ win0_2.index t (1 : Fin 2) = 0 := (by decide +kernel : ∀ t : Fin grid0.N, _)
theorem ix_3 : ∀ t : Fin cfg0.N, win0_3.index t (0 : Fin 2) = t.val / 8 ∧ win0_3.index t (1 : Fin 2) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)
theorem ix_5 : ∀ t : Fin cfg0.N, win0_5.index t (0 : Fin 2) = 0 ∧ win0_5.index t (1 : Fin 2) = 0 := (by decide +kernel : ∀ t : Fin grid0.N, _)
theorem ix_6 : ∀ t : Fin cfg0.N, win0_6.index t (0 : Fin 2) = 0 ∧ win0_6.index t (1 : Fin 2) = 0 := (by decide +kernel : ∀ t : Fin grid0.N, _)
theorem ix_7 : ∀ t : Fin cfg0.N, win0_7.index t (0 : Fin 3) = t.val ∧ win0_7.index t (1 : Fin 3) = 0 ∧ win0_7.index t (2 : Fin 3) = 0 := (by decide +kernel : ∀ t : Fin grid0.N, _)
theorem ix_8 : ∀ t : Fin cfg0.N, win0_8.index t (0 : Fin 2) = t.val / 8 ∧ win0_8.index t (1 : Fin 2) = 0 := (by decide +kernel : ∀ t : Fin grid0.N, _)
theorem ix_9 : ∀ t : Fin cfg0.N, win0_9.index t (0 : Fin 3) = t.val ∧ win0_9.index t (1 : Fin 3) = 0 ∧ win0_9.index t (2 : Fin 3) = 0 := (by decide +kernel : ∀ t : Fin grid0.N, _)

/-! Where an index of each window's block lies in its array. -/

theorem emb_0 (t : Fin cfg0.N) (r : Fin 8) (p : Fin 4096) : ((cfg0.win 0).blk t).view.emb (ix2 r p) = ix2 (grp t r) p := by
  obtain ⟨e0, e1⟩ := ix_0 t
  funext a; apply Fin.ext
  match a with
  | ⟨0, _⟩ => show win0_0.index t (0 : Fin 2) * 8 + 1 * r.val = 8 * (t.val / 8) + r.val; omega
  | ⟨1, _⟩ => show win0_0.index t (1 : Fin 2) * 4096 + 1 * p.val = p.val; omega
theorem emb_1 (t : Fin cfg0.N) (p : Fin 4096) (k : Fin 1152) : ((cfg0.win 1).blk t).view.emb (ix3 (0 : Fin 1) p k) = ix3 (sc t) p k := by
  obtain ⟨e0, e1, e2⟩ := ix_1 t
  funext a; apply Fin.ext
  match a with
  | ⟨0, _⟩ => show win0_1.index t (0 : Fin 3) * 1 + 1 * 0 = t.val; omega
  | ⟨1, _⟩ => show win0_1.index t (1 : Fin 3) * 4096 + 1 * p.val = p.val; omega
  | ⟨2, _⟩ => show win0_1.index t (2 : Fin 3) * 1152 + 1 * k.val = k.val; omega
theorem emb_2 (t : Fin cfg0.N) (r : Fin 8) (p : Fin 4096) : ((cfg0.win 2).blk t).view.emb (ix2 r p) = ix2 (grp t r) p := by
  obtain ⟨e0, e1⟩ := ix_2 t
  funext a; apply Fin.ext
  match a with
  | ⟨0, _⟩ => show win0_2.index t (0 : Fin 2) * 8 + 1 * r.val = 8 * (t.val / 8) + r.val; omega
  | ⟨1, _⟩ => show win0_2.index t (1 : Fin 2) * 4096 + 1 * p.val = p.val; omega
theorem emb_3 (t : Fin cfg0.N) (r : Fin 8) (p : Fin 4096) : ((cfg0.win 3).blk t).view.emb (ix2 r p) = ix2 (grp t r) p := by
  obtain ⟨e0, e1⟩ := ix_3 t
  funext a; apply Fin.ext
  match a with
  | ⟨0, _⟩ => show win0_3.index t (0 : Fin 2) * 8 + 1 * r.val = 8 * (t.val / 8) + r.val; omega
  | ⟨1, _⟩ => show win0_3.index t (1 : Fin 2) * 4096 + 1 * p.val = p.val; omega
theorem emb_4 (t : Fin cfg0.N) (k : Fin 1152) (q : Fin 256) : ((cfg0.win 4).blk t).view.emb (ix2 k q) = ix2 k q := by
  obtain ⟨e0, e1⟩ := ix_4 t
  funext a; apply Fin.ext
  match a with
  | ⟨0, _⟩ => show win0_4.index t (0 : Fin 2) * 1152 + 1 * k.val = k.val; omega
  | ⟨1, _⟩ => show win0_4.index t (1 : Fin 2) * 256 + 1 * q.val = q.val; omega
theorem emb_5 (t : Fin cfg0.N) (q : Fin 256) : ((cfg0.win 5).blk t).view.emb (ix2 (0 : Fin 1) q) = ix2 (0 : Fin 1) q := by
  obtain ⟨e0, e1⟩ := ix_5 t
  funext a; apply Fin.ext
  match a with
  | ⟨0, _⟩ => show win0_5.index t (0 : Fin 2) * 1 + 1 * 0 = 0; omega
  | ⟨1, _⟩ => show win0_5.index t (1 : Fin 2) * 256 + 1 * q.val = q.val; omega
theorem emb_6 (t : Fin cfg0.N) (q : Fin 256) : ((cfg0.win 6).blk t).view.emb (ix2 (0 : Fin 1) q) = ix2 (0 : Fin 1) q := by
  obtain ⟨e0, e1⟩ := ix_6 t
  funext a; apply Fin.ext
  match a with
  | ⟨0, _⟩ => show win0_6.index t (0 : Fin 2) * 1 + 1 * 0 = 0; omega
  | ⟨1, _⟩ => show win0_6.index t (1 : Fin 2) * 256 + 1 * q.val = q.val; omega
theorem emb_7 (t : Fin cfg0.N) (v : Fin 1100) (q : Fin 256) : ((cfg0.win 7).blk t).view.emb (ix3 (0 : Fin 1) v q) = ix3 (sc t) v q := by
  obtain ⟨e0, e1, e2⟩ := ix_7 t
  funext a; apply Fin.ext
  match a with
  | ⟨0, _⟩ => show win0_7.index t (0 : Fin 3) * 1 + 1 * 0 = t.val; omega
  | ⟨1, _⟩ => show win0_7.index t (1 : Fin 3) * 1100 + 1 * v.val = v.val; omega
  | ⟨2, _⟩ => show win0_7.index t (2 : Fin 3) * 256 + 1 * q.val = q.val; omega
theorem emb_8 (t : Fin cfg0.N) (r : Fin 8) (v : Fin 1100) : ((cfg0.win 8).blk t).view.emb (ix2 r v) = ix2 (grp t r) v := by
  obtain ⟨e0, e1⟩ := ix_8 t
  funext a; apply Fin.ext
  match a with
  | ⟨0, _⟩ => show win0_8.index t (0 : Fin 2) * 8 + 1 * r.val = 8 * (t.val / 8) + r.val; omega
  | ⟨1, _⟩ => show win0_8.index t (1 : Fin 2) * 1100 + 1 * v.val = v.val; omega
theorem emb_9 (t : Fin cfg0.N) (p : Fin 4096) (q : Fin 256) : ((cfg0.win 9).blk t).view.emb (ix3 (0 : Fin 1) p q) = ix3 (sc t) p q := by
  obtain ⟨e0, e1, e2⟩ := ix_9 t
  funext a; apply Fin.ext
  match a with
  | ⟨0, _⟩ => show win0_9.index t (0 : Fin 3) * 1 + 1 * 0 = t.val; omega
  | ⟨1, _⟩ => show win0_9.index t (1 : Fin 3) * 4096 + 1 * p.val = p.val; omega
  | ⟨2, _⟩ => show win0_9.index t (2 : Fin 3) * 256 + 1 * q.val = q.val; omega

/-! The two reshaped vectors as the region finds them. -/

theorem V_main_v0 (c : Dev nD) (q : Fin 256) : V m c main_v0 (ix2 (0 : Fin 1) q) = A3 m c (ix1 q) := by
  have e : V m c main_v0 = shapeCast S1x256 (A3 m c) shapeCasts_S256_S1x256 := by
    show StableHlo.after hostOps0 _ (Proc.devRef .tc main_v0) = _
    after_results
    rfl
  rw [e]
  exact shapeCast_apply _ _ _ _ (by rw [Shape.rowMajor_val_one, Shape.rowMajor_val_two]; simp [ix1, ix2])
theorem V_main_v1 (c : Dev nD) (q : Fin 256) : V m c main_v1 (ix2 (0 : Fin 1) q) = A4 m c (ix1 q) := by
  have e : V m c main_v1 = shapeCast S1x256 (A4 m c) shapeCasts_S256_S1x256 := by
    show StableHlo.after hostOps0 _ (Proc.devRef .tc main_v1) = _
    after_results
    rfl
  rw [e]
  exact shapeCast_apply _ _ _ _ (by rw [Shape.rowMajor_val_one, Shape.rowMajor_val_two]; simp [ix1, ix2])

/-! What each input's block holds. -/

theorem blk_0 (c : Dev nD) (t : Fin cfg0.N) (r : Fin 8) (p : Fin 4096) : iblk m c 0 t (ix2 r p) = A5 m c (ix2 (grp t r) p) := by
  show V m c main_arg5 (((cfg0.win 0).blk t).view.emb (ix2 r p)) = _
  rw [emb_0, V_main_arg5]; rfl
theorem blk_1 (c : Dev nD) (t : Fin cfg0.N) (p : Fin 4096) (k : Fin 1152) : iblk m c 1 t (ix3 (0 : Fin 1) p k) = A0 m c (ix3 (sc t) p k) := by
  show V m c main_arg0 (((cfg0.win 1).blk t).view.emb (ix3 (0 : Fin 1) p k)) = _
  rw [emb_1, V_main_arg0]; rfl
theorem blk_2 (c : Dev nD) (t : Fin cfg0.N) (r : Fin 8) (p : Fin 4096) : iblk m c 2 t (ix2 r p) = A1 m c (ix2 (grp t r) p) := by
  show V m c main_arg1 (((cfg0.win 2).blk t).view.emb (ix2 r p)) = _
  rw [emb_2, V_main_arg1]; rfl
theorem blk_3 (c : Dev nD) (t : Fin cfg0.N) (r : Fin 8) (p : Fin 4096) : iblk m c 3 t (ix2 r p) = A5 m c (ix2 (grp t r) p) := by
  show V m c main_arg5 (((cfg0.win 3).blk t).view.emb (ix2 r p)) = _
  rw [emb_3, V_main_arg5]; rfl
theorem blk_4 (c : Dev nD) (t : Fin cfg0.N) (k : Fin 1152) (q : Fin 256) : iblk m c 4 t (ix2 k q) = A2 m c (ix2 k q) := by
  show V m c main_arg2 (((cfg0.win 4).blk t).view.emb (ix2 k q)) = _
  rw [emb_4, V_main_arg2]; rfl
theorem blk_5 (c : Dev nD) (t : Fin cfg0.N) (q : Fin 256) : iblk m c 5 t (ix2 (0 : Fin 1) q) = A3 m c (ix1 q) := by
  show V m c main_v0 (((cfg0.win 5).blk t).view.emb (ix2 (0 : Fin 1) q)) = _
  rw [emb_5, V_main_v0]
theorem blk_6 (c : Dev nD) (t : Fin cfg0.N) (q : Fin 256) : iblk m c 6 t (ix2 (0 : Fin 1) q) = A4 m c (ix1 q) := by
  show V m c main_v1 (((cfg0.win 6).blk t).view.emb (ix2 (0 : Fin 1) q)) = _
  rw [emb_6, V_main_v1]

/-- The ids' block is the same at every point of a group. -/
theorem blk_3_grp (c : Dev nD) (t u : Fin cfg0.N) (h : t.val / 8 = u.val / 8) : (iblk m c 3 t : Vec F S8x4096 .i32) = iblk m c 3 u := by
  funext j
  have ej : j = ix2 (j 0 : Fin 8) (j 1 : Fin 4096) := funext fun a => by fin_cases a <;> rfl
  rw [ej]
  refine (blk_3 m c t _ _).trans (Eq.trans ?_ (blk_3 m c u _ _).symm)
  have : grp t (j 0 : Fin 8) = grp u (j 0 : Fin 8) := Fin.ext (by show 8 * (t.val / 8) + _ = 8 * (u.val / 8) + _; rw [h])
  rw [this]

/-- The rows of the counts' window already written in the group: each holds its own scene's counts. -/
theorem cntAt_eq (c : Dev nD) : ∀ (n : ℕ) (hn : n < 24) (y : S8x1100.Idx), (y 0).val ≤ n % 8 →
    cntAt m c n y = k0_pay63 (F := F) (BitVec.ofNat 32 (y 0).val) (iblk m c 3 ⟨n, N24.symm ▸ hn⟩)
      (ix2 (⟨(y 1).val / 128, by have : (y 1).val < 1100 := (y 1).isLt; omega⟩ : Fin 16) (⟨(y 1).val % 128, Nat.mod_lt _ (by decide)⟩ : Fin 128))
  | 0, hn, y, hy => by
    have h0 : (y 0).val = 0 := by omega
    have es : srow 0 = BitVec.ofNat 32 (y 0).val := by rw [h0]; exact srow_eq ⟨0, by decide⟩
    show cntOf (srow 0) (iblk m c 3 ⟨0, _⟩) (fun _ => 0#32) y = _
    rw [es]
    exact if_pos rfl
  | n + 1, hn, y, hy => by
    have hy8 : (y 0).val < 8 := (y 0).isLt
    have es : srow (n + 1) = BitVec.ofNat 32 ((n + 1) % 8) := srow_eq ⟨n + 1, hn⟩
    have et : (⟨(n + 1) % 24, Nat.mod_lt _ (by decide)⟩ : Fin cfg0.N) = ⟨n + 1, N24.symm ▸ hn⟩ := Fin.ext (Nat.mod_eq_of_lt hn)
    show cntOf (srow (n + 1)) (iblk m c 3 ⟨(n + 1) % 24, _⟩) (cntAt m c n) y = _
    rw [et, es]
    by_cases h : (y 0).val = (n + 1) % 8
    · rw [← h]
      exact if_pos rfl
    · have hne : ¬ BitVec.ofNat 32 (y 0).val = BitVec.ofNat 32 ((n + 1) % 8) := fun e => by
        have := congrArg BitVec.toNat e
        rw [BitVec.toNat_ofNat, BitVec.toNat_ofNat] at this; omega
      have hz : ¬ BitVec.ofNat 32 ((n + 1) % 8) = 0#32 := fun e => by
        have := congrArg BitVec.toNat e
        rw [BitVec.toNat_ofNat] at this
        have : (0#32 : BitVec 32).toNat = 0 := rfl
        omega
      refine (if_neg hne).trans ?_
      rw [if_neg hz, cntAt_eq c n (by omega) y (by omega), blk_3_grp m c ⟨n, N24.symm ▸ (by omega)⟩ ⟨n + 1, N24.symm ▸ hn⟩ (by show n / 8 = (n + 1) / 8; omega)]

end Cert.Proof.KernelIdeal
-- ==== Proof.Covers.lean ====
/- The result arrays when the pipeline ends, from what each point writes back. -/
module

public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem lt_N (a : Fin 24) : a.val < cfg0.N := by rw [N24]; exact a.isLt

/-- What a view's embedding reaches is under the view. -/
theorem mem_of_emb {κ : Kind} {sp : Space} {s : Shape} {e : EltTy} (v : View sig κ sp s e) {x : s.Idx} {i : v.ty.Idx} (h : v.emb x = i) : i ∈ v.set :=
  h ▸ v.emb_mem_set x

/-- The array of point features ends at `R` when each scene's block holds `R`'s entries. -/
theorem final_9 (c : Dev nD) (R : Buf (Elt F) ((c : Thread nD τ).loc main_v2_2))
    (h : ∀ (t : Fin cfg0.N) (j : S1x4096x256.Idx), ((dats m 0 c).after 9 t) j = R (((cfg0.win 9).blk t).view.emb j)) :
    (dats m 0 c).arrAt 9 cfg0.N = R :=
  (dats m 0 c).arrAt_eq_of_cover 9 R (fun t _ => funext fun j => h t j) fun i =>
    ⟨⟨(i 0 : Fin 24).val, lt_N (i 0)⟩, flush0_9 _, by
      have e : ((cfg0.win 9).blk ⟨(i 0 : Fin 24).val, lt_N (i 0)⟩).view.emb (ix3 (0 : Fin 1) (i 1 : Fin 4096) (i 2 : Fin 256)) = i :=
        (emb_9 _ _ _).trans (funext fun a => by fin_cases a <;> rfl)
      exact mem_of_emb _ e⟩

/-- The array of voxel features ends at `R` when each scene's block holds `R`'s entries. -/
theorem final_7 (c : Dev nD) (R : Buf (Elt F) ((c : Thread nD τ).loc main_v2_0))
    (h : ∀ (t : Fin cfg0.N) (j : S1x1100x256.Idx), ((dats m 0 c).after 7 t) j = R (((cfg0.win 7).blk t).view.emb j)) :
    (dats m 0 c).arrAt 7 cfg0.N = R :=
  (dats m 0 c).arrAt_eq_of_cover 7 R (fun t _ => funext fun j => h t j) fun i =>
    ⟨⟨(i 0 : Fin 24).val, lt_N (i 0)⟩, flush0_7 _, by
      have e : ((cfg0.win 7).blk ⟨(i 0 : Fin 24).val, lt_N (i 0)⟩).view.emb (ix3 (0 : Fin 1) (i 1 : Fin 1100) (i 2 : Fin 256)) = i :=
        (emb_7 _ _ _).trans (funext fun a => by fin_cases a <;> rfl)
      exact mem_of_emb _ e⟩

/-- The array of counts ends at `R` when each block written back, at the last scene of its group, holds `R`'s entries. -/
theorem final_8 (c : Dev nD) (R : Buf (Elt F) ((c : Thread nD τ).loc main_v2_1))
    (h : ∀ (t : Fin cfg0.N) (ht : t.val % 8 = 7) (j : S8x1100.Idx), ((dats m 0 c).after 8 t) j = R (((cfg0.win 8).blk t).view.emb j)) :
    (dats m 0 c).arrAt 8 cfg0.N = R :=
  (dats m 0 c).arrAt_eq_of_cover 8 R (fun t ht => funext fun j => h t ((flush0_8 t).mp ht) j) fun i => by
    have hi : (i 0 : Fin 24).val < 24 := (i 0 : Fin 24).isLt
    have hN : 8 * ((i 0 : Fin 24).val / 8) + 7 < cfg0.N := by rw [N24]; omega
    refine ⟨⟨8 * ((i 0 : Fin 24).val / 8) + 7, hN⟩, (flush0_8 _).mpr (by show (8 * ((i 0 : Fin 24).val / 8) + 7) % 8 = 7; omega), ?_⟩
    have e : ((cfg0.win 8).blk ⟨8 * ((i 0 : Fin 24).val / 8) + 7, hN⟩).view.emb (ix2 (⟨(i 0 : Fin 24).val % 8, Nat.mod_lt _ (by decide)⟩ : Fin 8) (i 1 : Fin 1100)) = i :=
      (emb_8 _ _ _).trans (funext fun a => by
        match a with
        | ⟨0, _⟩ => exact Fin.ext (by show 8 * ((8 * ((i 0 : Fin 24).val / 8) + 7) / 8) + (i 0 : Fin 24).val % 8 = (i 0 : Fin 24).val; omega)
        | ⟨1, _⟩ => rfl)
    exact mem_of_emb _ e

end Cert.Proof.KernelIdeal
-- ==== Proof.Spec.lean ====
/- The mathematics both programs compute, over the extended reals, at one point and at one voxel. -/
module

public import Idealize.ShloMosaic.PureOps.Ideal.Laws
public import Idealize.ShloMosaic.Lib.Pipeline.Value
public import Idealize.ShloMosaic.Lib.KernelVsHost
public import Idealize.ShloMosaic.Lib.MatmulPlain
public import Idealize.ShloMosaic.Lib.IdealHost
public import Idealize.ShloMosaic.Lib.WordSum

@[expose] public section

noncomputable section

namespace Cert.Proof

open Idealize.ShloMosaic

/-- The layer's formula: the product of the quantised row with the weights' column, scaled twice, with the bias, and cut at zero. -/
def feat (x : Fin 1152 → BitVec 8) (w : Fin 1152 → EReal) (xs ws b : EReal) : EReal :=
  max ((∑ k : Fin 1152, (((x k).toInt : ℝ) : EReal) * w k) * xs * ws + b) 0

theorem feat_nonneg (x : Fin 1152 → BitVec 8) (w : Fin 1152 → EReal) (xs ws b : EReal) : 0 ≤ feat x w xs ws b := le_max_right _ _

/-- The points of a scene that fall in voxel `v`. -/
def hits (id : Fin 4096 → BitVec 32) (v : ℕ) : Finset (Fin 4096) := Finset.univ.filter fun p => id p = BitVec.ofNat 32 v

theorem hits_card_le (id : Fin 4096 → BitVec 32) (v : ℕ) : (hits id v).card ≤ 4096 :=
  (Finset.card_le_univ _).trans (by simp)

/-- The entry of a voxel's features is the largest among its points', and zero where it has none: `x` is that number. -/
def IsMax (id : Fin 4096 → BitVec 32) (v : ℕ) (h : Fin 4096 → EReal) (x : EReal) : Prop :=
  ∀ z : EReal, x ≤ z ↔ 0 ≤ z ∧ ∀ p, id p = BitVec.ofNat 32 v → h p ≤ z

/-- There is one such number. -/
theorem IsMax.unique {id : Fin 4096 → BitVec 32} {v : ℕ} {h : Fin 4096 → EReal} {x y : EReal} (hx : IsMax id v h x) (hy : IsMax id v h y) : x = y :=
  eq_of_forall_ge_iff fun z => (hx z).trans (hy z).symm

/-- The minus infinity that a largest-entry reduction starts from. -/
theorem ofBits_neg_inf : (FloatOps.ofBits (F := Ideal) .f32 0xFF800000#32 : EReal) = ⊥ := by
  show Ideal.ofBits .f32 0xFF800000#32 = ⊥
  simp [Ideal.ofBits, Ideal.ieee]

/-- A word's high and low parts name it. -/
theorem word_parts (w : BitVec 32) (j l : ℕ) (hj : j < 16) (hl : l < 128) :
    (IntOp.shrsi .vector w 7#32 = BitVec.ofNat 32 j ∧ IntOp.andi w 127#32 = BitVec.ofNat 32 l) ↔ w = BitVec.ofNat 32 (128 * j + l) := by
  have hs : (IntOp.shrsi .vector w 7#32).toInt = w.toInt / 128 := by
    show (if (7#32 : BitVec 32).toNat < 32 then w.sshiftRight' 7#32 else _).toInt = _
    rw [if_pos (by decide)]
    show (w.sshiftRight 7).toInt = _
    rw [BitVec.toInt_sshiftRight, Int.shiftRight_eq_div_pow]; rfl
  have ha : (IntOp.andi w 127#32).toNat = w.toNat % 128 := by
    show (w &&& 127#32).toNat = _
    rw [BitVec.toNat_and]
    exact Nat.and_two_pow_sub_one_eq_mod w.toNat 7
  have hw := w.isLt
  have hwi : w.toInt = if 2 * w.toNat < 2 ^ 32 then (w.toNat : ℤ) else (w.toNat : ℤ) - (2 ^ 32 : ℕ) := BitVec.toInt_eq_toNat_cond w
  have ej : (BitVec.ofNat 32 j).toInt = j := by
    rw [BitVec.toInt_eq_toNat_cond, BitVec.toNat_ofNat, Nat.mod_eq_of_lt (by omega), if_pos (by omega)]
  constructor
  · rintro ⟨h1, h2⟩
    rw [h1, ej] at hs
    rw [h2, BitVec.toNat_ofNat] at ha
    apply BitVec.eq_of_toNat_eq
    rw [BitVec.toNat_ofNat]
    split at hwi <;> omega
  · intro h
    have hn : w.toNat = 128 * j + l := by rw [h, BitVec.toNat_ofNat]; omega
    constructor
    · apply BitVec.eq_of_toInt_eq
      rw [hs, ej, hwi, if_pos (by omega)]; omega
    · apply BitVec.eq_of_toNat_eq
      rw [ha, BitVec.toNat_ofNat]; omega

/-- The float of a number below `2^31`, read back as a word. -/
theorem fptosi_natCast (n : ℕ) (h : n < 2 ^ 31) : Ideal.fptosi 32 (((n : ℝ)) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by omega
  rw [this]; exact BitVec.ofInt_natCast 32 n

/-- The sum of ones over the points of a voxel, in the extended reals. -/
theorem sum_hits (id : Fin 4096 → BitVec 32) (v : ℕ) (f : Fin 4096 → EReal) (hf : ∀ p, f p = if id p = BitVec.ofNat 32 v then 1 else 0) :
    ∑ p, f p = (((hits id v).card : ℝ) : EReal) := by
  rw [Finset.sum_congr rfl fun p _ => hf p, Finset.sum_boole]; rfl

end Cert.Proof
-- ==== Proof.HrowIdeal.lean ====
/- Over the extended reals: a point's features, as the kernel computes them, are the layer's formula. -/
module

public import proofs.«01_k».proof.Proof.Outs
public import proofs.«01_k».proof.Proof.Spec

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

/-- The distance by which the kernel rotates a group of eight rows, so that row `v9` comes to the top. -/
def rotBy (v9 : BitVec 32) : BitVec 32 :=
  let v320 : BitVec 32 := Scalar.subi 8#32 v9
  let v321 : BitVec 1 := Scalar.cmpi .eq 8#32 0#32
  let v322 : BitVec 32 := Scalar.select v321 1#32 8#32
  let v323 : BitVec 32 := Scalar.remsi v320 v322
  let v324 : BitVec 1 := Scalar.cmpi .ne v323 0#32
  let v325 : BitVec 1 := Scalar.cmpi .slt v323 0#32
  let v326 : BitVec 1 := Scalar.cmpi .slt v322 0#32
  let v327 : BitVec 1 := Scalar.xori v325 v326
  let v328 : BitVec 1 := Scalar.andi v327 v324
  let v329 : BitVec 32 := Scalar.addi v323 v322
  Scalar.select v328 v329 v323

theorem rotBy_row : ∀ s : Fin 8, (0 + 8 - (rotBy (BitVec.ofNat 32 s.val)).toNat % 8) % 8 = s.val := by decide +kernel

section Generic
variable {α : Type}

/-- The top row of a rotated group of eight rows of 128 is the scene's row. -/
theorem rot128 (x : S8x128.Idx → α) (s : Fin 8) (c : Fin 128) :
    extractStridedSlice S1x128 ![0, 0] (dynamicRotate 0 (rotBy (BitVec.ofNat 32 s.val)) none x rotates_S8x128_d0) slices_S8x128_o0_0_S1x128 (ix2 (0 : Fin 1) c) = x (ix2 s c) := by
  rw [extractStridedSlice_apply ![0, 0] _ slices_S8x128_o0_0_S1x128 (ix2 (0 : Fin 1) c) (ix2 (0 : Fin 8) c)
    (fun a => by fin_cases a <;> simp [ix2])]
  refine dynamicRotate_apply _ _ _ _ _ _ fun b => ?_
  fin_cases b
  · exact (rotBy_row s).symm
  · rfl

/-- The top row of a rotated group of eight rows of 4096 is the scene's row. -/
theorem rot4096 (x : S8x4096.Idx → α) (s : Fin 8) (c : Fin 4096) :
    extractStridedSlice S1x4096 ![0, 0] (dynamicRotate 0 (rotBy (BitVec.ofNat 32 s.val)) none x rotates_S8x4096_d0) slices_S8x4096_o0_0_S1x4096 (ix2 (0 : Fin 1) c) = x (ix2 s c) := by
  rw [extractStridedSlice_apply ![0, 0] _ slices_S8x4096_o0_0_S1x4096 (ix2 (0 : Fin 1) c) (ix2 (0 : Fin 8) c)
    (fun a => by fin_cases a <;> simp [ix2])]
  refine dynamicRotate_apply _ _ _ _ _ _ fun b => ?_
  fin_cases b
  · exact (rotBy_row s).symm
  · rfl

/-- A row of 128, laid along the columns of a square. -/
theorem colwise (y : S1x128.Idx → α) (i j : Fin 128) :
    transpose S128x128 [1, 0] (broadcastTo S128x128 (shapeCast S1x128 y shapeCasts_S1x128_S1x128) broadcasts_S1x128_S128x128) transposes_S128x128_p1_0_S128x128 (ix2 i j) = y (ix2 (0 : Fin 1) i) := by
  rw [shapeCast_self, transpose_apply [1, 0] _ transposes_S128x128_p1_0_S128x128 (ix2 i j) (ix2 j i) (fun b => by fin_cases b <;> rfl)]
  exact broadcastTo_apply _ _ _ _ fun a => by fin_cases a <;> rfl

/-- A row of 128, laid along 512 rows. -/
theorem rowwise (y : S1x128.Idx → α) (i : Fin 512) (j : Fin 128) :
    broadcastTo S512x128 (shapeCast S1x128 y shapeCasts_S1x128_S1x128) broadcasts_S1x128_S512x128 (ix2 i j) = y (ix2 (0 : Fin 1) j) := by
  rw [shapeCast_self]
  exact broadcastTo_apply _ _ _ _ fun a => by fin_cases a <;> rfl

end Generic

section Scales
variable {F : FTy → Type} [FloatOps F]

/-- A square of scales: entry `(i, j)` is the scale of point `i`. -/
theorem pay33_apply (s : Fin 8) (x : Vec F S8x128 .f32) (i j : Fin 128) : k0_pay33 (BitVec.ofNat 32 s.val) x (ix2 i j) = x (ix2 s i) := by
  unfold k0_pay33
  exact (colwise _ i j).trans (rot128 x s i)

/-- The scales of a tile's points: row `i` of the tile has its own point's scale. -/
theorem pay36_apply (s : Fin 8) (z : Fin 4 → Vec F S8x128 .f32) (i : Fin 512) (j : Fin 128) :
    k0_pay36 (k0_pay33 (BitVec.ofNat 32 s.val) (z 0)) (k0_pay33 (BitVec.ofNat 32 s.val) (z 1)) (k0_pay33 (BitVec.ofNat 32 s.val) (z 2)) (z 3)
      (Scalar.subi 8#32 (BitVec.ofNat 32 s.val)) 8#32 (Scalar.cmpi .eq 8#32 0#32) (ix2 i j)
    = z ⟨i.val / 128, by have := i.isLt; omega⟩ (ix2 s (⟨i.val % 128, Nat.mod_lt _ (by decide)⟩ : Fin 128)) := by
  have e : k0_pay36 (k0_pay33 (BitVec.ofNat 32 s.val) (z 0)) (k0_pay33 (BitVec.ofNat 32 s.val) (z 1)) (k0_pay33 (BitVec.ofNat 32 s.val) (z 2)) (z 3)
      (Scalar.subi 8#32 (BitVec.ofNat 32 s.val)) 8#32 (Scalar.cmpi .eq 8#32 0#32)
      = concatenate S512x128 0 (List.ofFn fun n : Fin 4 => (⟨S128x128, k0_pay33 (BitVec.ofNat 32 s.val) (z n)⟩ : (s : Shape) × (s.Idx → F .f32)))
          concatenates_S128x128_S128x128_S128x128_S128x128_S512x128_d0 := rfl
  refine (congrFun e _).trans ((concatenate_ofFn_apply (t := S512x128) (s₁ := S128x128) 0 (fun n => k0_pay33 (BitVec.ofNat 32 s.val) (z n))
    concatenates_S128x128_S128x128_S128x128_S128x128_S512x128_d0 rfl 128 rfl (ix2 i j)
    ⟨i.val / 128, by have := i.isLt; omega⟩ rfl (ix2 (⟨i.val % 128, Nat.mod_lt _ (by decide)⟩ : Fin 128) j) rfl (fun b hb => by
      fin_cases b
      · exact absurd rfl hb
      · rfl)).trans ?_)
  exact pay33_apply s _ _ j

end Scales

/-- The product of a tile with the weights. -/
theorem pay32_apply (A : Vec Ideal S1x512x1152 .i8) (W : Vec Ideal S1152x256 .fp8e4m3) (i : Fin 512) (j : Fin 256) :
    k0_pay32 (F := Ideal) A W (ix2 i j) = ∑ k : Fin 1152, ((((A (ix3 (0 : Fin 1) i k) : BitVec 8)).toInt : ℝ) : EReal) * (W (ix2 k j) : EReal) := by
  unfold k0_pay32
  refine (Ideal.matmul_plain_apply (M := 512) (K := 1152) (N := 256) none _ _ _ i j).trans ?_
  show (FloatOps.ofBits (F := Ideal) .f32 0x00000000#32 : EReal) + _ = _
  rw [show (FloatOps.ofBits (F := Ideal) .f32 0x00000000#32 : EReal) = 0 from Ideal.ofBits_zero_f32, zero_add]
  refine Finset.sum_congr rfl fun k _ => ?_
  congr 1
  show ((((shapeCast S512x1152 A shapeCasts_S1x512x1152_S512x1152 (ix2 i k) : BitVec 8)).toInt : ℝ) : EReal) = _
  rw [shapeCast_apply A shapeCasts_S1x512x1152_S512x1152 (ix2 i k) (ix3 (0 : Fin 1) i k) (by
    rw [Shape.rowMajor_val_three, Shape.rowMajor_val_two]; simp [ix2, ix3])]

/-- An entry of the left half of a tile. -/
theorem tlo_apply (A : Vec Ideal S1x512x1152 .i8) (W : Vec Ideal S1152x256 .fp8e4m3) (s : Fin 8) (z : Fin 4 → Vec Ideal S8x128 .f32) (w b : Vec Ideal S1x128 .f32) (i : Fin 512) (j : Fin 128) :
    tlo (F := Ideal) A W (BitVec.ofNat 32 s.val) (z 0) (z 1) (z 2) (z 3) w b (ix2 i j)
      = feat (fun k => A (ix3 (0 : Fin 1) i k)) (fun k => W (ix2 k (⟨j.val, by have := j.isLt; omega⟩ : Fin 256)))
          (z ⟨i.val / 128, by have := i.isLt; omega⟩ (ix2 s (⟨i.val % 128, Nat.mod_lt _ (by decide)⟩ : Fin 128))) (w (ix2 (0 : Fin 1) j)) (b (ix2 (0 : Fin 1) j)) := by
  unfold tlo k0_pay37 feat
  show max (_ * _ * _ + _ : EReal) (FloatOps.ofBits (F := Ideal) .f32 0x00000000#32 : EReal) = _
  rw [show (FloatOps.ofBits (F := Ideal) .f32 0x00000000#32 : EReal) = 0 from Ideal.ofBits_zero_f32]
  rw [rowwise w i j, rowwise b i j, pay36_apply s z i j]
  rw [extractStridedSlice_apply ![0, 0] _ slices_S512x256_o0_0_S512x128 (ix2 i j) (ix2 i (⟨j.val, by have := j.isLt; omega⟩ : Fin 256))
    (fun a => by fin_cases a <;> simp [ix2]), pay32_apply]

/-- An entry of the right half of a tile. -/
theorem thi_apply (A : Vec Ideal S1x512x1152 .i8) (W : Vec Ideal S1152x256 .fp8e4m3) (s : Fin 8) (z : Fin 4 → Vec Ideal S8x128 .f32) (w b : Vec Ideal S1x128 .f32) (i : Fin 512) (j : Fin 128) :
    thi (F := Ideal) A W (BitVec.ofNat 32 s.val) (z 0) (z 1) (z 2) (z 3) w b (ix2 i j)
      = feat (fun k => A (ix3 (0 : Fin 1) i k)) (fun k => W (ix2 k (⟨128 + j.val, by have := j.isLt; omega⟩ : Fin 256)))
          (z ⟨i.val / 128, by have := i.isLt; omega⟩ (ix2 s (⟨i.val % 128, Nat.mod_lt _ (by decide)⟩ : Fin 128))) (w (ix2 (0 : Fin 1) j)) (b (ix2 (0 : Fin 1) j)) := by
  unfold thi k0_pay38 feat
  show max (_ * _ * _ + _ : EReal) (FloatOps.ofBits (F := Ideal) .f32 0x00000000#32 : EReal) = _
  rw [show (FloatOps.ofBits (F := Ideal) .f32 0x00000000#32 : EReal) = 0 from Ideal.ofBits_zero_f32]
  rw [rowwise w i j, rowwise b i j, pay36_apply s z i j]
  rw [extractStridedSlice_apply ![0, 128] _ slices_S512x256_o0_128_S512x128 (ix2 i j) (ix2 i (⟨128 + j.val, by have := j.isLt; omega⟩ : Fin 256))
    (fun a => by fin_cases a <;> simp [ix2]), pay32_apply]

/-- A point's features are the layer's formula at the point. -/
theorem hrow_apply (x2 : Vec Ideal S1x4096x1152 .i8) (x3 : Vec Ideal S8x4096 .f32) (x5 : Vec Ideal S1152x256 .fp8e4m3) (x6 x7 : Vec Ideal S1x256 .f32)
    (s : Fin 8) (p : Fin 4096) (q : Fin 2) (l : Fin 128) (c : Fin 256) (hc : c.val = 128 * q.val + l.val) :
    (hrow (F := Ideal) x2 x3 x5 x6 x7 (BitVec.ofNat 32 s.val) p.val q l : EReal)
      = feat (fun k => x2 (ix3 (0 : Fin 1) p k)) (fun k => x5 (ix2 k c)) (x3 (ix2 s p)) (x6 (ix2 (0 : Fin 1) c)) (x7 (ix2 (0 : Fin 1) c)) := by
  have hp := p.isLt
  have hl := l.isLt
  show tileOf (F := Ideal) x2 x3 x5 x6 x7 (BitVec.ofNat 32 s.val) (p.val / 512) q (ix2 (⟨p.val % 512, Nat.mod_lt _ (by decide)⟩ : Fin 512) l) = _
  have ex : ∀ k : Fin 1152, x2w (F := Ideal) x2 (p.val / 512) (ix3 (0 : Fin 1) (⟨p.val % 512, Nat.mod_lt _ (by decide)⟩ : Fin 512) k) = x2 (ix3 (0 : Fin 1) p k) := fun k => by
    show x2 _ = x2 _
    congr 2
    apply Fin.ext
    show (512 * (p.val / 512) + p.val % 512) % 4096 = p.val
    omega
  have es : x3w (F := Ideal) x3 (p.val / 512) (p.val % 512 / 128) (ix2 s (⟨p.val % 512 % 128, Nat.mod_lt _ (by decide)⟩ : Fin 128)) = x3 (ix2 s p) := by
    show x3 _ = x3 _
    congr 2
    apply Fin.ext
    show (512 * (p.val / 512) + 128 * (p.val % 512 / 128) + p.val % 512 % 128) % 4096 = p.val
    omega
  have ew : ∀ (y : Vec Ideal S1x256 .f32), x6w (F := Ideal) y q.val (ix2 (0 : Fin 1) l) = y (ix2 (0 : Fin 1) c) := fun y => by
    show y _ = y _
    congr 2
    apply Fin.ext
    show (128 * q.val + l.val) % 256 = c.val
    have := c.isLt; omega
  unfold tileOf
  by_cases h : q.val = 0
  · rw [if_pos h]
    refine (tlo_apply _ _ s (fun m => x3w x3 (p.val / 512) m.val) _ _ _ l).trans ?_
    have ec : (⟨l.val, by omega⟩ : Fin 256) = c := Fin.ext (by show l.val = c.val; omega)
    rw [h] at ew
    rw [ew, ew, ec]
    show feat _ _ (x3w (F := Ideal) x3 (p.val / 512) (p.val % 512 / 128) (ix2 s (⟨p.val % 512 % 128, Nat.mod_lt _ (by decide)⟩ : Fin 128))) _ _ = _
    rw [es]; simp only [ex]
  · have h1 : q.val = 1 := by have := q.isLt; omega
    rw [if_neg h]
    refine (thi_apply _ _ s (fun m => x3w x3 (p.val / 512) m.val) _ _ _ l).trans ?_
    have ec : (⟨128 + l.val, by omega⟩ : Fin 256) = c := Fin.ext (by show 128 + l.val = c.val; omega)
    rw [h1] at ew
    rw [ew, ew, ec]
    show feat _ _ (x3w (F := Ideal) x3 (p.val / 512) (p.val % 512 / 128) (ix2 s (⟨p.val % 512 % 128, Nat.mod_lt _ (by decide)⟩ : Fin 128))) _ _ = _
    rw [es]; simp only [ex]

end Cert.Proof.KernelIdeal
-- ==== Proof.CountIdeal.lean ====
/- Over the extended reals: a scene's row of the counts, as the kernel computes it, is the number of its points in each voxel. -/
module

public import proofs.«01_k».proof.Proof.HrowIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

/-- A choice between one and zero by an equality test. -/
theorem onehot (a b : BitVec 32) : Scalar.select (IntOp.cmpi .eq a b) (FloatOps.ofBits (F := Ideal) .f32 0x3F800000#32 : EReal) (FloatOps.ofBits (F := Ideal) .f32 0x00000000#32 : EReal) = if a = b then 1 else 0 := by
  rw [show (FloatOps.ofBits (F := Ideal) .f32 0x00000000#32 : EReal) = 0 from Ideal.ofBits_zero_f32,
    show (FloatOps.ofBits (F := Ideal) .f32 0x3F800000#32 : EReal) = 1 from Ideal.ofBits_one_f32]
  by_cases h : a = b
  · subst h
    rw [if_pos rfl]
    show Scalar.select (BitVec.ofBool (a == a)) _ _ = _
    rw [beq_self_eq_true]; rfl
  · rw [if_neg h]
    show Scalar.select (BitVec.ofBool (a == b)) _ _ = _
    rw [beq_eq_false_iff_ne.mpr h]; rfl

section
variable {α : Type}
/-- A row of 4096, laid along 16 rows. -/
theorem lay16 (y : S1x4096.Idx → α) (i : Fin 16) (j : Fin 4096) : broadcastTo S16x4096 y broadcasts_S1x4096_S16x4096 (ix2 i j) = y (ix2 (0 : Fin 1) j) :=
  broadcastTo_apply _ _ _ _ fun a => by fin_cases a <;> rfl
/-- A row of 4096, laid along 128 rows. -/
theorem lay128 (y : S1x4096.Idx → α) (i : Fin 128) (j : Fin 4096) : broadcastTo S128x4096 y broadcasts_S1x4096_S128x4096 (ix2 i j) = y (ix2 (0 : Fin 1) j) :=
  broadcastTo_apply _ _ _ _ fun a => by fin_cases a <;> rfl
end

/-- Entry `(j, l)` of the scene's counts is the number of its points in voxel `128 j + l`. -/
theorem pay63_apply (s : Fin 8) (x : Vec Ideal S8x4096 .i32) (j : Fin 16) (l : Fin 128) :
    k0_pay63 (F := Ideal) (BitVec.ofNat 32 s.val) x (ix2 j l) = BitVec.ofNat 32 (hits (fun p => x (ix2 s p)) (128 * j.val + l.val)).card := by
  unfold k0_pay63
  show Ideal.fptosi 32 _ = _
  refine (congrArg (Ideal.fptosi 32) ?_).trans (fptosi_natCast _ (lt_of_le_of_lt (hits_card_le (fun p => x (ix2 s p)) (128 * j.val + l.val)) (by decide)))
  refine (Ideal.matmul_transposedRhs_apply (M := 16) (K := 4096) (N := 128) none _ _ _ j l).trans ?_
  refine ((congrArg (· + _) (Ideal.ofBits_zero_f32 : (FloatOps.ofBits (F := Ideal) .f32 0x00000000#32 : EReal) = 0)).trans (zero_add _)).trans ?_
  refine sum_hits (fun p => x (ix2 s p)) _ _ fun p => ?_
  show Scalar.select (IntOp.cmpi .eq (broadcastTo S16x4096 _ broadcasts_S1x4096_S16x4096 (ix2 j p)) (iota .tc S16x4096 32 [0] iota_S16x4096_d0_w32 (ix2 j p))) (FloatOps.ofBits (F := Ideal) .f32 0x3F800000#32 : EReal) (FloatOps.ofBits (F := Ideal) .f32 0x00000000#32 : EReal)
    * Scalar.select (IntOp.cmpi .eq (broadcastTo S128x4096 _ broadcasts_S1x4096_S128x4096 (ix2 l p)) (iota .tc S128x4096 32 [0] iota_S128x4096_d0_w32 (ix2 l p))) (FloatOps.ofBits (F := Ideal) .f32 0x3F800000#32 : EReal) (FloatOps.ofBits (F := Ideal) .f32 0x00000000#32 : EReal) = _
  rw [onehot, onehot, lay16, lay128, iota_single_apply, iota_single_apply]
  show (if IntOp.shrsi .vector (extractStridedSlice S1x4096 ![0, 0] (dynamicRotate 0 (rotBy (BitVec.ofNat 32 s.val)) none x rotates_S8x4096_d0) slices_S8x4096_o0_0_S1x4096 (ix2 (0 : Fin 1) p)) 7#32 = BitVec.ofNat 32 j.val then (1 : EReal) else 0)
    * (if IntOp.andi (extractStridedSlice S1x4096 ![0, 0] (dynamicRotate 0 (rotBy (BitVec.ofNat 32 s.val)) none x rotates_S8x4096_d0) slices_S8x4096_o0_0_S1x4096 (ix2 (0 : Fin 1) p)) 127#32 = BitVec.ofNat 32 l.val then (1 : EReal) else 0) = _
  rw [rot4096 x s p]
  have hw := word_parts (x (ix2 s p)) j.val l.val j.isLt l.isLt
  by_cases h1 : IntOp.shrsi .vector (x (ix2 s p)) 7#32 = BitVec.ofNat 32 j.val
  · by_cases h2 : IntOp.andi (x (ix2 s p)) 127#32 = BitVec.ofNat 32 l.val
    · rw [if_pos h1, if_pos h2, if_pos (hw.mp ⟨h1, h2⟩), one_mul]
    · rw [if_neg h2, if_neg (fun h => h2 (hw.mpr h).2), mul_zero]
  · rw [if_neg h1, if_neg (fun h => h1 (hw.mpr h).1), zero_mul]

end Cert.Proof.KernelIdeal
-- ==== Proof.VoxelIdeal.lean ====
/- Over the extended reals: an entry of a scene's voxel features, as the kernel computes it from its eight tables, is the largest
   among the voxel's points, and zero where it has none. -/
module

public import proofs.«01_k».proof.Proof.Outs
public import proofs.«01_k».proof.Proof.Ids
public import proofs.«01_k».proof.Proof.Spec

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

/-- What bounds an entry of a table: zero, and the rows merged there. -/
theorem tab_le (idf : ℕ → BitVec 32) (hf : ℕ → Fin 2 → Fin 128 → Elt Ideal .bf16) (k : ℕ) (j : S1112x2x128.Idx) (z : EReal) :
    ∀ n, (tab (F := Ideal) idf hf k n j : EReal) ≤ z ↔ 0 ≤ z ∧ ∀ i < n, rowOf (idf (8 * i + k)) = (j 0).val → (hf (8 * i + k) (j 1) (j 2) : EReal) ≤ z
  | 0 => by
    show (FloatOps.ofBits (F := Ideal) .bf16 0x0000#16 : EReal) ≤ z ↔ _
    rw [show (FloatOps.ofBits (F := Ideal) .bf16 0x0000#16 : EReal) = 0 from Ideal.ofBits_zero_bf16]
    exact ⟨fun h => ⟨h, fun i hi => absurd hi (Nat.not_lt_zero i)⟩, fun h => h.1⟩
  | n + 1 => by
    have ih := tab_le idf hf k j z n
    have e : (tab (F := Ideal) idf hf k (n + 1) j : EReal) = if (j 0).val = rowOf (idf (8 * n + k)) then max (tab (F := Ideal) idf hf k n j : EReal) (hf (8 * n + k) (j 1) (j 2) : EReal) else (tab (F := Ideal) idf hf k n j : EReal) := rfl
    rw [e]
    by_cases h : (j 0).val = rowOf (idf (8 * n + k))
    · rw [if_pos h, max_le_iff, ih]
      constructor
      · rintro ⟨⟨h0, h1⟩, h2⟩
        refine ⟨h0, fun i hi hr => ?_⟩
        rcases Nat.lt_succ_iff_lt_or_eq.mp hi with hi | rfl
        · exact h1 i hi hr
        · exact h2
      · rintro ⟨h0, h1⟩
        exact ⟨⟨h0, fun i hi hr => h1 i (by omega) hr⟩, h1 n (by omega) h.symm⟩
    · rw [if_neg h, ih]
      constructor
      · rintro ⟨h0, h1⟩
        refine ⟨h0, fun i hi hr => ?_⟩
        rcases Nat.lt_succ_iff_lt_or_eq.mp hi with hi | rfl
        · exact h1 i hi hr
        · exact absurd hr.symm h
      · rintro ⟨h0, h1⟩
        exact ⟨h0, fun i hi hr => h1 i (by omega) hr⟩

/-- What bounds the largest of eight tables: a bound of each. -/
theorem vmax_le (T : ℕ → Vec Ideal S1112x2x128 .bf16) (j : S1112x2x128.Idx) (z : EReal) :
    (vmax (F := Ideal) T j : EReal) ≤ z ↔ ∀ k < 8, (T k j : EReal) ≤ z := by
  show max (max (max (max (max (max (max (T 0 j : EReal) (T 1 j)) (T 2 j)) (T 3 j)) (T 4 j)) (T 5 j)) (T 6 j)) (T 7 j) ≤ z ↔ _
  simp only [max_le_iff]
  constructor
  · rintro ⟨⟨⟨⟨⟨⟨⟨h0, h1⟩, h2⟩, h3⟩, h4⟩, h5⟩, h6⟩, h7⟩ k hk
    interval_cases k <;> assumption
  · intro h
    exact ⟨⟨⟨⟨⟨⟨⟨h 0 (by decide), h 1 (by decide)⟩, h 2 (by decide)⟩, h 3 (by decide)⟩, h 4 (by decide)⟩, h 5 (by decide)⟩, h 6 (by decide)⟩, h 7 (by decide)⟩

/-- A word in range names row `v + 8` when it is `v`. -/
theorem row_iff {w : BitVec 32} (h : IdOK w) (v : ℕ) (hv : v < 1100) : rowOf w = v + 8 ↔ w = BitVec.ofNat 32 v := by
  have h0 : ((rowOf w : ℕ) : ℤ) = w.toInt + 8 := h.toNat_row
  have ev : (BitVec.ofNat 32 v).toInt = v := by
    rw [BitVec.toInt_eq_toNat_cond, BitVec.toNat_ofNat, Nat.mod_eq_of_lt (by omega), if_pos (by omega)]
  constructor
  · intro e
    apply BitVec.eq_of_toInt_eq
    rw [ev]; omega
  · intro e
    have : w.toInt = v := by rw [e, ev]
    omega

/-- An entry of a scene's voxel features is the largest among the voxel's points, and zero where it has none. -/
theorem vfOf_isMax (idf : ℕ → BitVec 32) (hf : ℕ → Fin 2 → Fin 128 → Elt Ideal .bf16) (id : Fin 4096 → BitVec 32) (hid : ∀ p, IdOK (id p))
    (e : ∀ p : Fin 4096, idf p.val = id p) (v : Fin 1100) (q : Fin 2) (l : Fin 128) (c : Fin 256) (hc : c.val = 128 * q.val + l.val) :
    IsMax id v.val (fun p => (hf p.val q l : EReal)) (vfOf (F := Ideal) (fun k => tab idf hf k 512) (ix3 (0 : Fin 1) v c) : EReal) := by
  intro z
  have hl := l.isLt
  have hq := q.isLt
  have ey : (vfOf (F := Ideal) (fun k => tab idf hf k 512) (ix3 (0 : Fin 1) v c) : EReal) = (vmax (F := Ideal) (fun k => tab idf hf k 512) (ix3 (⟨v.val + 8, by have := v.isLt; omega⟩ : Fin 1112) q l) : EReal) := by
    show (vmax (F := Ideal) (fun k => tab idf hf k 512) _ : EReal) = _
    congr 1
    have e1 : (⟨c.val / 128, by have := c.isLt; omega⟩ : Fin 2) = q := Fin.ext (by show c.val / 128 = q.val; omega)
    have e2 : (⟨c.val % 128, Nat.mod_lt _ (by decide)⟩ : Fin 128) = l := Fin.ext (by show c.val % 128 = l.val; omega)
    exact congrArg₂ (ix3 (⟨v.val + 8, by have := v.isLt; omega⟩ : Fin 1112)) e1 e2
  rw [ey, vmax_le]
  have hr : ∀ p : Fin 4096, rowOf (idf p.val) = v.val + 8 ↔ id p = BitVec.ofNat 32 v.val := fun p => by rw [e p]; exact row_iff (hid p) _ v.isLt
  constructor
  · intro h
    refine ⟨((tab_le idf hf 0 _ z 512).mp (h 0 (by decide))).1, fun p hp => ?_⟩
    have h1 := ((tab_le idf hf (p.val % 8) _ z 512).mp (h (p.val % 8) (Nat.mod_lt _ (by decide)))).2 (p.val / 8) (by have := p.isLt; omega)
    rw [show 8 * (p.val / 8) + p.val % 8 = p.val by omega] at h1
    exact h1 ((hr p).mpr hp)
  · rintro ⟨h0, h1⟩ k hk
    refine (tab_le idf hf k _ z 512).mpr ⟨h0, fun i hi hri => ?_⟩
    exact h1 ⟨8 * i + k, by omega⟩ ((hr ⟨8 * i + k, by omega⟩).mp hri)

end Cert.Proof.KernelIdeal
-- ==== Proof.RefIdeal.lean ====
/- Over the extended reals: what the reference's three results are, entry by entry. -/
module

public import proofs.«01_k».proof.Proof.Gen.ReferenceIdeal.Value
public import proofs.«01_k».proof.Proof.Spec

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx

variable (a0 : Vec Ideal S24x4096x1152 .i8) (a1 : Vec Ideal S24x4096 .f32) (a2 : Vec Ideal S1152x256 .fp8e4m3) (a3 a4 : Vec Ideal S256 .f32) (a5 : Vec Ideal S24x4096 .i32)

/-- The reference's features are the layer's formula. -/
theorem pay2_apply (s : Fin 24) (p : Fin 4096) (q : Fin 256) :
    (k0_pay2 (F := Ideal) a0 a2 a1 a3 a4 (ix3 s p q) : EReal)
      = feat (fun k => a0 (ix3 s p k)) (fun k => a2 (ix2 k q)) (a1 (ix2 s p)) (a3 (ix1 q)) (a4 (ix1 q)) := by
  have hs := s.isLt
  have hp := p.isLt
  unfold k0_pay2 feat
  show max (shapeCast S24x4096x256 (matmul (F := Ideal) dot_S98304x1152_S1152x256_S98304x256_1_0_0_1_n_n none _ _ _) shapeCasts_S98304x256_S24x4096x256 (ix3 s p q)
      * broadcastTo S24x4096x256 (shapeCast S24x4096x1 a1 shapeCasts_S24x4096_S24x4096x1) broadcasts_S24x4096x1_S24x4096x256 (ix3 s p q)
      * broadcastTo S24x4096x256 (shapeCast S1x1x256 a3 shapeCasts_S256_S1x1x256) broadcasts_S1x1x256_S24x4096x256 (ix3 s p q)
      + broadcastTo S24x4096x256 (shapeCast S1x1x256 a4 shapeCasts_S256_S1x1x256) broadcasts_S1x1x256_S24x4096x256 (ix3 s p q) : EReal)
    (FloatOps.ofBits (F := Ideal) .f32 0x00000000#32 : EReal) = _
  have e0 : (FloatOps.ofBits (F := Ideal) .f32 0x00000000#32 : EReal) = 0 := Ideal.ofBits_zero_f32
  have eb : ∀ y : Vec Ideal S256 .f32, broadcastTo S24x4096x256 (shapeCast S1x1x256 y shapeCasts_S256_S1x1x256) broadcasts_S1x1x256_S24x4096x256 (ix3 s p q) = y (ix1 q) := fun y => by
    rw [broadcastTo_apply _ broadcasts_S1x1x256_S24x4096x256 (ix3 s p q) (ix3 (0 : Fin 1) (0 : Fin 1) q) (fun a => by fin_cases a <;> rfl)]
    exact shapeCast_apply _ _ _ _ (by rw [Shape.rowMajor_val_one, Shape.rowMajor_val_three]; simp [ix1, ix3])
  rw [e0, eb, eb, broadcastTo_apply _ broadcasts_S24x4096x1_S24x4096x256 (ix3 s p q) (ix3 s p (0 : Fin 1)) (fun a => by fin_cases a <;> rfl),
    shapeCast_apply a1 shapeCasts_S24x4096_S24x4096x1 (ix3 s p (0 : Fin 1)) (ix2 s p) (by rw [Shape.rowMajor_val_two, Shape.rowMajor_val_three]; simp [ix2, ix3]),
    shapeCast_apply _ shapeCasts_S98304x256_S24x4096x256 (ix3 s p q) (ix2 (⟨4096 * s.val + p.val, by omega⟩ : Fin 98304) q) (by
      rw [Shape.rowMajor_val_two, Shape.rowMajor_val_three]
      show (4096 * s.val + p.val) * 256 + q.val = (s.val * 4096 + p.val) * 256 + q.val
      ring)]
  have em : (matmul (F := Ideal) dot_S98304x1152_S1152x256_S98304x256_1_0_0_1_n_n none (shapeCast S98304x1152 (sitofp (F := Ideal) .bf16 a0) shapeCasts_S24x4096x1152_S98304x1152) (extf .bf16 a2 bitsLt_fp8e4m3_bf16) (constant S98304x256 .f32 0x00000000#32) (ix2 (⟨4096 * s.val + p.val, by omega⟩ : Fin 98304) q) : EReal)
      = ∑ k : Fin 1152, ((((a0 (ix3 s p k) : BitVec 8)).toInt : ℝ) : EReal) * (a2 (ix2 k q) : EReal) := by
    refine (Ideal.matmul_plain_apply (M := 98304) (K := 1152) (N := 256) none _ _ _ (⟨4096 * s.val + p.val, by omega⟩ : Fin 98304) q).trans ?_
    refine ((congrArg (· + _) e0).trans (zero_add _)).trans ?_
    refine Finset.sum_congr rfl fun k _ => ?_
    refine congrArg (· * (a2 (ix2 k q) : EReal)) ?_
    rw [shapeCast_apply _ shapeCasts_S24x4096x1152_S98304x1152 (ix2 (⟨4096 * s.val + p.val, by omega⟩ : Fin 98304) k) (ix3 s p k) (by
      rw [Shape.rowMajor_val_two, Shape.rowMajor_val_three]
      show (s.val * 4096 + p.val) * 1152 + k.val = (4096 * s.val + p.val) * 1152 + k.val
      ring)]
    rfl
  exact congrArg (fun t : EReal => max (t * (a1 (ix2 s p) : EReal) * (a3 (ix1 q) : EReal) + (a4 (ix1 q) : EReal)) 0) em

/-- The reference's mask: whether a point falls in a voxel. -/
theorem pay4_apply (s : Fin 24) (p : Fin 4096) (v : Fin 1100) : k0_pay4 (F := Ideal) a5 (ix3 s p v) = BitVec.ofBool (a5 (ix2 s p) == BitVec.ofNat 32 v.val) := by
  unfold k0_pay4
  show IntOp.cmpi .eq (broadcastTo S24x4096x1100 (shapeCast S24x4096x1 a5 shapeCasts_S24x4096_S24x4096x1) broadcasts_S24x4096x1_S24x4096x1100 (ix3 s p v)) (iota .tc S24x4096x1100 32 [2] iota_S24x4096x1100_d2_w32 (ix3 s p v)) = _
  rw [iota_single_apply, broadcastTo_apply _ broadcasts_S24x4096x1_S24x4096x1100 (ix3 s p v) (ix3 s p (0 : Fin 1)) (fun a => by fin_cases a <;> rfl),
    shapeCast_apply a5 shapeCasts_S24x4096_S24x4096x1 (ix3 s p (0 : Fin 1)) (ix2 s p) (by rw [Shape.rowMajor_val_two, Shape.rowMajor_val_three]; simp [ix2, ix3])]
  rfl

/-- The reference's counts are the number of a scene's points in each voxel. -/
theorem pay5_apply (s : Fin 24) (v : Fin 1100) : k0_pay5 (F := Ideal) a5 (ix2 s v) = BitVec.ofNat 32 (hits (fun p => a5 (ix2 s p)) v.val).card := by
  unfold k0_pay5
  have hc := hits_card_le (fun p => a5 (ix2 s p)) v.val
  have hsum : ∑ i ∈ Finset.univ.filter (fun i => reduces_S24x4096x1100_S24x1100.drop i = ix2 s v), (extui 32 (k0_pay4 (F := Ideal) a5) natLt_1_32 i).toNat = (hits (fun p => a5 (ix2 s p)) v.val).card := by
    refine (reduces_S24x4096x1100_S24x1100.sum_filter_drop_single (fun i => (extui 32 (k0_pay4 (F := Ideal) a5) natLt_1_32 i).toNat) (ix2 s v)).trans ?_
    unfold hits
    rw [Finset.card_filter]
    refine Finset.sum_congr rfl fun (p : Fin 4096) _ => ?_
    have ei : reduces_S24x4096x1100_S24x1100.lift (ix2 s v) p = ix3 s p v := funext fun c => Fin.ext (by fin_cases c <;> rfl)
    rw [ei]
    show ((k0_pay4 (F := Ideal) a5 (ix3 s p v)).setWidth 32).toNat = _
    rw [pay4_apply]
    by_cases h : a5 (ix2 s p) = BitVec.ofNat 32 v.val
    · rw [if_pos h, beq_iff_eq.mpr h]; rfl
    · rw [if_neg h, beq_eq_false_iff_ne.mpr h]; rfl
  apply BitVec.eq_of_toNat_eq
  refine (WordSum.toNat_multiReductionI_add (extui 32 (k0_pay4 (F := Ideal) a5) natLt_1_32) reduces_S24x4096x1100_S24x1100 rfl (ix2 s v) (by rw [hsum]; omega)).trans ?_
  rw [hsum, BitVec.toNat_ofNat]; omega

/-- The reference's last step, entry by entry: the largest under the mask where the voxel has a point, zero elsewhere. -/
theorem pay1_open (A : IVec S24x1100 32) (B : IVec S24x4096x1100x256 1) (C D : FVec Ideal S24x4096x1100x256 .f32) (y : S24x1100x256.Idx) :
    (k0_pay1 (F := Ideal) A B C D y : EReal)
      = Scalar.select (broadcastTo S24x1100x256 (shapeCast S24x1100x1 (cmpi .sgt (shapeCast S24x1100x1 A shapeCasts_S24x1100_S24x1100x1) (broadcast S24x1100x1 0#32)) shapeCasts_S24x1100x1_S24x1100x1) broadcasts_S24x1100x1_S24x1100x256 y)
        (multiReduction (F := Ideal) .maximumf [1] S24x1100x256 (select B C D) 0xFF800000#32 reduces_S24x4096x1100x256_S24x1100x256 (.inl rfl) rfl y : EReal)
        (FloatOps.ofBits (F := Ideal) .f32 0x00000000#32 : EReal) := rfl

/-- The reference's voxel features are the largest among the voxel's points, and zero where it has none. -/
theorem pay1_isMax (s : Fin 24) (v : Fin 1100) (q : Fin 256) :
    IsMax (fun p => a5 (ix2 s p)) v.val (fun p => (k0_pay2 (F := Ideal) a0 a2 a1 a3 a4 (ix3 s p q) : EReal))
      (k0_pay1 (F := Ideal) (k0_pay5 (F := Ideal) a5) (k0_pay6 (F := Ideal) a5) (k0_pay7 (F := Ideal) a0 a2 a1 a3 a4) (k0_pay8 (F := Ideal)) (ix3 s v q) : EReal) := by
  have hc := hits_card_le (fun p => a5 (ix2 s p)) v.val
  have hs := s.isLt
  have hv := v.isLt
  have hfold : (multiReduction (F := Ideal) .maximumf [1] S24x1100x256 (select (k0_pay6 (F := Ideal) a5) (k0_pay7 (F := Ideal) a0 a2 a1 a3 a4) (k0_pay8 (F := Ideal))) 0xFF800000#32 reduces_S24x4096x1100x256_S24x1100x256 (.inl rfl) rfl (ix3 s v q) : EReal)
      = (Finset.univ : Finset (Fin 4096)).fold max ⊥ (fun p => if a5 (ix2 s p) = BitVec.ofNat 32 v.val then (k0_pay2 (F := Ideal) a0 a2 a1 a3 a4 (ix3 s p q) : EReal) else ⊥) := by
    refine (Ideal.multiReduction_maximumf_single _ _ reduces_S24x4096x1100x256_S24x1100x256 _ _ (ix3 s v q)).trans ?_
    rw [ofBits_neg_inf]
    refine Finset.fold_congr fun (p : Fin 4096) _ => ?_
    have ei : reduces_S24x4096x1100x256_S24x1100x256.lift (ix3 s v q) p = ix4 s p v q := funext fun c => Fin.ext (by fin_cases c <;> rfl)
    show select (k0_pay6 (F := Ideal) a5) (k0_pay7 (F := Ideal) a0 a2 a1 a3 a4) (k0_pay8 (F := Ideal)) (reduces_S24x4096x1100x256_S24x1100x256.lift (ix3 s v q) p) = _
    rw [ei]
    have e6 : k0_pay6 (F := Ideal) a5 (ix4 s p v q) = BitVec.ofBool (a5 (ix2 s p) == BitVec.ofNat 32 v.val) := by
      unfold k0_pay6
      rw [shapeCast_self, broadcastTo_apply _ broadcasts_S24x4096x1100x1_S24x4096x1100x256 (ix4 s p v q) (ix4 s p v (0 : Fin 1)) (fun a => by fin_cases a <;> rfl),
        shapeCast_apply _ shapeCasts_S24x4096x1100_S24x4096x1100x1 (ix4 s p v (0 : Fin 1)) (ix3 s p v) (by rw [Shape.rowMajor_val_three, Shape.rowMajor_val_four]; simp [ix3, ix4]; try ring)]
      exact pay4_apply a5 s p v
    have e7 : (k0_pay7 (F := Ideal) a0 a2 a1 a3 a4 (ix4 s p v q) : EReal) = (k0_pay2 (F := Ideal) a0 a2 a1 a3 a4 (ix3 s p q) : EReal) := by
      unfold k0_pay7
      rw [shapeCast_self, broadcastTo_apply _ broadcasts_S24x4096x1x256_S24x4096x1100x256 (ix4 s p v q) (ix4 s p (0 : Fin 1) q) (fun a => by fin_cases a <;> rfl),
        shapeCast_apply _ shapeCasts_S24x4096x256_S24x4096x1x256 (ix4 s p (0 : Fin 1) q) (ix3 s p q) (by rw [Shape.rowMajor_val_three, Shape.rowMajor_val_four]; simp [ix3, ix4]; try ring)]
    show Scalar.select (k0_pay6 (F := Ideal) a5 (ix4 s p v q)) (k0_pay7 (F := Ideal) a0 a2 a1 a3 a4 (ix4 s p v q) : EReal) (FloatOps.ofBits (F := Ideal) .f32 0xFF800000#32 : EReal) = _
    rw [e6, e7, ofBits_neg_inf]
    by_cases h : a5 (ix2 s p) = BitVec.ofNat 32 v.val
    · rw [if_pos h, beq_iff_eq.mpr h]; rfl
    · rw [if_neg h, beq_eq_false_iff_ne.mpr h]; rfl
  have hsel : (k0_pay1 (F := Ideal) (k0_pay5 (F := Ideal) a5) (k0_pay6 (F := Ideal) a5) (k0_pay7 (F := Ideal) a0 a2 a1 a3 a4) (k0_pay8 (F := Ideal)) (ix3 s v q) : EReal)
      = if 0 < (hits (fun p => a5 (ix2 s p)) v.val).card then (Finset.univ : Finset (Fin 4096)).fold max ⊥ (fun p => if a5 (ix2 s p) = BitVec.ofNat 32 v.val then (k0_pay2 (F := Ideal) a0 a2 a1 a3 a4 (ix3 s p q) : EReal) else ⊥) else 0 := by
    rw [pay1_open]
    rw [hfold, show (FloatOps.ofBits (F := Ideal) .f32 0x00000000#32 : EReal) = 0 from Ideal.ofBits_zero_f32, shapeCast_self,
      broadcastTo_apply _ broadcasts_S24x1100x1_S24x1100x256 (ix3 s v q) (ix3 s v (0 : Fin 1)) (fun a => by fin_cases a <;> rfl)]
    show Scalar.select (IntOp.cmpi .sgt (shapeCast S24x1100x1 (k0_pay5 (F := Ideal) a5) shapeCasts_S24x1100_S24x1100x1 (ix3 s v (0 : Fin 1))) 0#32) _ _ = _
    rw [shapeCast_apply _ shapeCasts_S24x1100_S24x1100x1 (ix3 s v (0 : Fin 1)) (ix2 s v) (by rw [Shape.rowMajor_val_two, Shape.rowMajor_val_three]; simp [ix2, ix3]), pay5_apply]
    generalize (hits (fun p => a5 (ix2 s p)) v.val).card = n at hc ⊢
    have en : (BitVec.ofNat 32 n).toInt = n := by
      rw [BitVec.toInt_eq_toNat_cond, BitVec.toNat_ofNat, Nat.mod_eq_of_lt (by omega), if_pos (by omega)]
    show Scalar.select (BitVec.ofBool (decide ((0#32 : BitVec 32).toInt < (BitVec.ofNat 32 n).toInt))) _ _ = _
    rw [en, show (0#32 : BitVec 32).toInt = 0 by decide]
    by_cases h : 0 < n
    · rw [if_pos h, decide_eq_true (by omega)]; rfl
    · rw [if_neg h, decide_eq_false (by omega)]; rfl
  intro z
  rw [hsel]
  by_cases h : 0 < (hits (fun p => a5 (ix2 s p)) v.val).card
  · rw [if_pos h, Finset.fold_max_le]
    obtain ⟨p0, hp0⟩ := Finset.card_pos.mp h
    have hp0' : a5 (ix2 s p0) = BitVec.ofNat 32 v.val := (Finset.mem_filter.mp hp0).2
    constructor
    · rintro ⟨_, h1⟩
      have h2 : ∀ p, a5 (ix2 s p) = BitVec.ofNat 32 v.val → (k0_pay2 (F := Ideal) a0 a2 a1 a3 a4 (ix3 s p q) : EReal) ≤ z := fun p hp => by
        have := h1 p (Finset.mem_univ p)
        rwa [if_pos hp] at this
      refine ⟨le_trans ?_ (h2 p0 hp0'), h2⟩
      rw [pay2_apply]; exact feat_nonneg _ _ _ _ _
    · rintro ⟨h0, h1⟩
      refine ⟨bot_le, fun p _ => ?_⟩
      by_cases hp : a5 (ix2 s p) = BitVec.ofNat 32 v.val
      · rw [if_pos hp]; exact h1 p hp
      · rw [if_neg hp]; exact bot_le
  · rw [if_neg h]
    refine ⟨fun h0 => ⟨h0, fun p hp => absurd (Finset.card_pos.mpr ⟨p, Finset.mem_filter.mpr ⟨Finset.mem_univ p, hp⟩⟩) h⟩, fun h0 => h0.1⟩

end Cert.Proof.ReferenceIdeal
-- ==== Proof.Entries.lean ====
/- What the kernel's blocks and the reference's arrays hold, entry by entry, in terms of the kernel's arguments. -/
module

public import proofs.«01_k».proof.Proof.Covers
public import proofs.«01_k».proof.Proof.CountIdeal
public import proofs.«01_k».proof.Proof.HrowIdeal
public import proofs.«01_k».proof.Proof.VoxelIdeal
public import proofs.«01_k».proof.Proof.RefIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The reference's voxel features of the kernel's arguments, as contents of the kernel's result array. -/
def R7 (c : Dev nD) : Buf (Elt Ideal) ((c : Thread nD τ).loc main_v2_0) :=
  Cert.ReferenceIdeal.Value.G6 (F := Ideal) (A0 m c) (A1 m c) (A2 m c) (A3 m c) (A4 m c) (A5 m c)
/-- The reference's counts of the kernel's arguments. -/
def R8 (c : Dev nD) : Buf (Elt Ideal) ((c : Thread nD τ).loc main_v2_1) :=
  Cert.ReferenceIdeal.Value.G7 (F := Ideal) (A0 m c) (A1 m c) (A2 m c) (A3 m c) (A4 m c) (A5 m c)
/-- The reference's point features of the kernel's arguments. -/
def R9 (c : Dev nD) : Buf (Elt Ideal) ((c : Thread nD τ).loc main_v2_2) :=
  Cert.ReferenceIdeal.Value.G8 (F := Ideal) (A0 m c) (A1 m c) (A2 m c) (A3 m c) (A4 m c) (A5 m c)

/-- The scene's row of its group. -/
def own (t : Fin cfg0.N) : Fin 8 := ⟨t.val % 8, Nat.mod_lt _ (by decide)⟩

theorem grp_own (t : Fin cfg0.N) : grp t (own t) = sc t := Fin.ext (by show 8 * (t.val / 8) + t.val % 8 = t.val; omega)

theorem srow_own (t : Fin cfg0.N) : srow (grid0.coords t 0).val = BitVec.ofNat 32 (own t).val := by
  rw [coords_val]; exact srow_eq (sc t)

/-- A point's features of the kernel, from the blocks' entries. -/
theorem hrow_of {x2 : Vec Ideal S1x4096x1152 .i8} {x3 : Vec Ideal S8x4096 .f32} {x5 : Vec Ideal S1152x256 .fp8e4m3}
    {x6 x7 : Vec Ideal S1x256 .f32} {n : BitVec 32} (s : Fin 8) (hn : n = BitVec.ofNat 32 s.val)
    (p : Fin 4096) (q : Fin 2) (l : Fin 128) (d : Fin 256) (hd : d.val = 128 * q.val + l.val)
    {f : Fin 1152 → BitVec 8} {g : Fin 1152 → EReal} {u v w : EReal} (e2 : ∀ k, x2 (ix3 0 p k) = f k) (e5 : ∀ k, x5 (ix2 k d) = g k)
    (e3 : x3 (ix2 s p) = u) (e6 : x6 (ix2 0 d) = v) (e7 : x7 (ix2 0 d) = w) :
    (hrow (F := Ideal) x2 x3 x5 x6 x7 n p.val q l : EReal) = feat f g u v w := by
  obtain rfl : (fun k => x2 (ix3 (0 : Fin 1) p k)) = f := funext e2
  obtain rfl : (fun k => x5 (ix2 k d)) = g := funext e5
  subst hn e3 e6 e7
  exact hrow_apply x2 x3 x5 x6 x7 s p q l d hd

/-- The kernel's features of a point are the reference's. -/
theorem hrow_ref (c : Dev nD) (t : Fin cfg0.N) (p : Fin 4096) (q : Fin 2) (l : Fin 128) (d : Fin 256) (hd : d.val = 128 * q.val + l.val) :
    (hrow (F := Ideal) (iblk m c 1 t) (iblk m c 2 t) (iblk m c 4 t) (iblk m c 5 t) (iblk m c 6 t) (srow (grid0.coords t 0).val) p.val q l : EReal)
      = feat (fun k => A0 m c (ix3 (sc t) p k)) (fun k => A2 m c (ix2 k d)) (A1 m c (ix2 (sc t) p)) (A3 m c (ix1 d)) (A4 m c (ix1 d)) := by
  refine hrow_of (own t) (srow_own t) p q l d hd ?_ ?_ ?_ ?_ ?_
  · exact fun k => blk_1 m c t p k
  · exact fun k => blk_4 m c t k d
  · have h := blk_2 m c t (own t) p
    rw [grp_own] at h
    exact h
  · exact blk_5 m c t d
  · exact blk_6 m c t d

/-- An entry of the reference's point features. -/
theorem R9_apply (c : Dev nD) (s : Fin 24) (p : Fin 4096) (d : Fin 256) :
    (R9 m c (ix3 s p d) : EReal)
      = feat (fun k => A0 m c (ix3 s p k)) (fun k => A2 m c (ix2 k d)) (A1 m c (ix2 s p)) (A3 m c (ix1 d)) (A4 m c (ix1 d)) :=
  Cert.Proof.ReferenceIdeal.pay2_apply (A0 m c) (A1 m c) (A2 m c) (A3 m c) (A4 m c) s p d

/-- An entry of the reference's counts. -/
theorem R8_apply (c : Dev nD) (s : Fin 24) (v : Fin 1100) :
    R8 m c (ix2 s v) = BitVec.ofNat 32 (hits (fun p => A5 m c (ix2 s p)) v.val).card :=
  Cert.Proof.ReferenceIdeal.pay5_apply (A5 m c) s v

/-- An entry of the reference's voxel features is the largest feature of the voxel's points. -/
theorem R7_isMax (c : Dev nD) (s : Fin 24) (v : Fin 1100) (d : Fin 256) :
    IsMax (fun p => A5 m c (ix2 s p)) v.val
      (fun p => feat (fun k => A0 m c (ix3 s p k)) (fun k => A2 m c (ix2 k d)) (A1 m c (ix2 s p)) (A3 m c (ix1 d)) (A4 m c (ix1 d)))
      (R7 m c (ix3 s v d)) := by
  have h := Cert.Proof.ReferenceIdeal.pay1_isMax (A0 m c) (A1 m c) (A2 m c) (A3 m c) (A4 m c) (A5 m c) s v d
  have e := funext fun p => Cert.Proof.ReferenceIdeal.pay2_apply (A0 m c) (A1 m c) (A2 m c) (A3 m c) (A4 m c) s p d
  rw [e] at h
  exact h

/-- The voxel number the kernel reads for a point is the argument's. -/
theorem idAt_ref (c : Dev nD) (t : Fin cfg0.N) (p : Fin 4096) :
    idAt (F := Ideal) (iblk m c 0 t) ((grid0.coords t 0).val % 8) p.val = A5 m c (ix2 (sc t) p) := by
  rw [coords_val]
  have h := blk_0 m c t (own t) p
  rw [grp_own] at h
  unfold idAt
  rw [dif_pos ⟨Nat.mod_lt _ (by decide), p.isLt⟩]
  refine Eq.trans (congrArg (iblk m c 0 t) ?_) h
  funext a; fin_cases a <;> rfl

end Cert.Proof.KernelIdeal
-- ==== Proof.Arrays.lean ====
/- The equation: over the extended reals, the kernel's three result arrays are the reference's functions of the arguments. -/
module

public import proofs.«01_k».proof.Proof.Entries

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A channel, from its half and its lane. -/
theorem half_lane (d : Fin 256) : ∃ (q : Fin 2) (l : Fin 128), q.val = d.val / 128 ∧ l.val = d.val % 128 ∧ d.val = 128 * q.val + l.val :=
  ⟨⟨d.val / 128, by have := d.isLt; omega⟩, ⟨d.val % 128, Nat.mod_lt _ (by decide)⟩, rfl, rfl, by show d.val = 128 * (d.val / 128) + d.val % 128; omega⟩

/-- A block of point features, entry by entry. -/
theorem val_9 (c : Dev nD) (t : Fin cfg0.N) (p : Fin 4096) (d : Fin 256) :
    (pfOf (F := Ideal) (hrow (iblk m c 1 t) (iblk m c 2 t) (iblk m c 4 t) (iblk m c 5 t) (iblk m c 6 t) (srow (grid0.coords t 0).val)) (ix3 (0 : Fin 1) p d) : EReal)
      = R9 m c (ix3 (sc t) p d) := by
  have hd := d.isLt
  refine Eq.trans ?_ (R9_apply m c (sc t) p d).symm
  exact hrow_ref m c t p (⟨d.val / 128, by omega⟩ : Fin 2) (⟨d.val % 128, Nat.mod_lt _ (by decide)⟩ : Fin 128) d
    (by show d.val = 128 * (d.val / 128) + d.val % 128; omega)

/-- A block of voxel features, entry by entry. -/
theorem val_7 (c : Dev nD) (hid : ∀ j, IdOK (A5 m c j)) (t : Fin cfg0.N) (v : Fin 1100) (d : Fin 256) :
    (vfOf (F := Ideal) (fun k => tab (idAt (iblk m c 0 t) ((grid0.coords t 0).val % 8)) (hrow (iblk m c 1 t) (iblk m c 2 t) (iblk m c 4 t) (iblk m c 5 t) (iblk m c 6 t) (srow (grid0.coords t 0).val)) k 512) (ix3 (0 : Fin 1) v d) : EReal)
      = R7 m c (ix3 (sc t) v d) := by
  have hd := d.isLt
  have hk := vfOf_isMax (idAt (F := Ideal) (iblk m c 0 t) ((grid0.coords t 0).val % 8)) (hrow (F := Ideal) (iblk m c 1 t) (iblk m c 2 t) (iblk m c 4 t) (iblk m c 5 t) (iblk m c 6 t) (srow (grid0.coords t 0).val))
    (fun p => A5 m c (ix2 (sc t) p)) (fun p => hid _) (idAt_ref m c t) v (⟨d.val / 128, by omega⟩ : Fin 2) (⟨d.val % 128, Nat.mod_lt _ (by decide)⟩ : Fin 128) d
    (by show d.val = 128 * (d.val / 128) + d.val % 128; omega)
  have eh := funext fun p : Fin 4096 => hrow_ref m c t p (⟨d.val / 128, by omega⟩ : Fin 2) (⟨d.val % 128, Nat.mod_lt _ (by decide)⟩ : Fin 128) d
    (by show d.val = 128 * (d.val / 128) + d.val % 128; omega)
  rw [eh] at hk
  exact hk.unique (R7_isMax m c (sc t) v d)

/-- A block of counts, entry by entry, when it is written back. -/
theorem val_8 (c : Dev nD) (t : Fin cfg0.N) (h7 : t.val % 8 = 7) (r : Fin 8) (v : Fin 1100) :
    cntAt (F := Ideal) m c t.val (ix2 r v) = R8 m c (ix2 (grp t r) v) := by
  have h0 := r.isLt
  have h1 := v.isLt
  have ht : t.val < 24 := lt_of_lt_of_eq t.isLt N24
  rw [R8_apply, cntAt_eq m c t.val ht (ix2 r v) (by show r.val ≤ _; omega)]
  refine (pay63_apply r (iblk m c 3 t) (⟨v.val / 128, by omega⟩ : Fin 16) (⟨v.val % 128, Nat.mod_lt _ (by decide)⟩ : Fin 128)).trans ?_
  have ev : 128 * (v.val / 128) + v.val % 128 = v.val := by omega
  have ei : (fun p => iblk m c 3 t (ix2 r p)) = fun p : Fin 4096 => A5 m c (ix2 (grp t r) p) := funext fun p => blk_3 m c t r p
  exact congrArg₂ (fun (f : Fin 4096 → BitVec 32) (n : ℕ) => BitVec.ofNat 32 (hits f n).card) ei ev

/-- A rank-three index of a block of one scene, from its parts. -/
theorem ix3_eta {b d : ℕ} (j : (⟨3, ![1, b, d]⟩ : Shape).Idx) : j = ix3 (0 : Fin 1) (j 1 : Fin b) (j 2 : Fin d) := funext fun a => by
  match a with
  | ⟨0, _⟩ => exact Fin.ext (by have : (j 0).val < 1 := (j 0).isLt; show (j 0).val = 0; omega)
  | ⟨1, _⟩ => rfl
  | ⟨2, _⟩ => rfl

/-- The point features' array ends at the reference's. -/
theorem end_9 (c : Dev nD) : (dats m 0 c).arrAt 9 cfg0.N = R9 m c :=
  final_9 m c (R9 m c) fun t j => by
    rw [after_9, ix3_eta j]
    exact (val_9 m c t _ _).trans (congrArg (R9 m c) (emb_9 t _ _).symm)
/-- The counts' array ends at the reference's. -/
theorem end_8 (c : Dev nD) : (dats m 0 c).arrAt 8 cfg0.N = R8 m c :=
  final_8 m c (R8 m c) fun t ht j => by
    have ej : j = ix2 (j 0 : Fin 8) (j 1 : Fin 1100) := funext fun a => by fin_cases a <;> rfl
    rw [after_8, ej]
    exact (val_8 m c t ht _ _).trans (congrArg (R8 m c) (emb_8 t _ _).symm)
/-- The voxel features' array ends at the reference's. -/
theorem end_7 (c : Dev nD) (hid : ∀ j, IdOK (A5 m c j)) : (dats m 0 c).arrAt 7 cfg0.N = R7 m c :=
  final_7 m c (R7 m c) fun t j => by
    rw [after_7, ix3_eta j]
    exact (val_7 m c hid t _ _).trans (congrArg (R7 m c) (emb_7 t _ _).symm)

/-- The run, read: each result array at the reference's function of the arguments, the arguments unchanged. -/
theorem run (hid : ∀ (c : Dev nD) j, IdOK (m ((c : Thread nD τ).loc main_arg5) j)) :
    θ_run defs (onTc (τ := τ) (main (F := Ideal))) ⟨m, fun _ => 0, ρ⟩ (fun r => ∀ c : Dev nD,
      r.2.mem ((c.tc : Thread nD τ).loc main_v2_0) = R7 m c
      ∧ r.2.mem ((c.tc : Thread nD τ).loc main_v2_1) = R8 m c
      ∧ r.2.mem ((c.tc : Thread nD τ).loc main_v2_2) = R9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h.1 c).1 7).trans (end_7 m c (hid c)),
      ((h.1 c).1 8).trans (end_8 m c),
      ((h.1 c).1 9).trans (end_9 m c),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 4).trans (((dats m 0 c).arrAt_in 4 rfl _).trans ((A_eq m c 4).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 3).trans (((dats m 0 c).arrAt_in 3 rfl _).trans ((A_eq m c 3).trans (V_main_arg5 m c)))⟩) (run_main m ρ hid)

end Cert.Proof.KernelIdeal
-- ==== Proof.Equation.lean ====
/- The algebraic claim: run on equal arguments over the extended reals, the idealized kernel and the reference end with the
   same three results. -/
module

public import proofs.«01_k».proof.Defs
public import proofs.«01_k».proof.Proof.Ids
public import proofs.«01_k».proof.Proof.Arrays
public import proofs.«01_k».proof.Proof.Gen.KernelIdeal
public import proofs.«01_k».proof.Proof.Gen.ReferenceIdeal
public import proofs.«01_k».proof.Proof.Gen.ReferenceIdeal.Value
public import proofs.«01_k».proof.Proof.Gen.Pre_pre

@[expose] public section

set_option maxRecDepth 16384

noncomputable section

namespace Cert.Proof

open Idealize.ShloMosaic Idealize.SL.Sem

/-- Equal arguments give equal values of a function of the six of them. -/
theorem congr_six {T0 T1 T2 T3 T4 T5 T : Type} (f : T0 → T1 → T2 → T3 → T4 → T5 → T) {a0 b0 : T0} {a1 b1 : T1} {a2 b2 : T2}
    {a3 b3 : T3} {a4 b4 : T4} {a5 b5 : T5} (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5; rfl

/-- The reference's counts of voxel numbers equal to the kernel's. -/
theorem R8_of (m : (ℓ : Loc Cert.KernelIdeal.nD Cert.KernelIdeal.τ Cert.KernelIdeal.sig) → Buf (Elt Ideal) ℓ) (c : Dev Cert.KernelIdeal.nD)
    {a5 : Vec Ideal Cert.KernelIdeal.S24x4096 .i32} (h : a5 = Cert.Proof.KernelIdeal.A5 m c) :
    Cert.ReferenceIdeal.Gen.k0_pay5 (F := Ideal) a5 = Cert.Proof.KernelIdeal.R8 m c := by
  rw [h]
  unfold Cert.Proof.KernelIdeal.R8
  rfl

/-- The kernel's three results are the reference's. -/
theorem algebraic : Cert.algebraic_KernelIdeal_ReferenceIdeal := by
  intro m g m' g' hpre hargs
  refine ⟨Cert.Proof.KernelIdeal.R7 m, Cert.Proof.KernelIdeal.R8 m, Cert.Proof.KernelIdeal.R9 m, ?_, ?_⟩
  · exact Cert.Proof.KernelIdeal.run m g fun c => ids_of_pre _ _ _ _ _ _ (hpre c)
  · refine (θ_run Cert.ReferenceIdeal.defs _ _).mono (fun r h c => ?_) (Cert.ReferenceIdeal.Value.run m' g')
    obtain ⟨e0, e1, e2, e3, e4, e5⟩ := hargs c
    obtain ⟨h6, h7, h8, hk⟩ := h c
    refine ⟨h6.trans ?_, h7.trans ?_, h8.trans ?_, hk⟩
    · exact congr_six (Cert.ReferenceIdeal.Value.G6 (F := Ideal)) e0 e1 e2 e3 e4 e5
    · exact R8_of m c e5
    · exact congr_six (Cert.ReferenceIdeal.Value.G8 (F := Ideal)) e0 e1 e2 e3 e4 e5

end Cert.Proof
-- ==== Proof.lean ====
module

public import proofs.«01_k».proof.Defs
public import Idealize.ShloMosaic.Lib.Bf16PairInverse
public import proofs.«01_k».proof.Proof.Ids
public import proofs.«01_k».proof.Proof.KernelFrame
public import proofs.«01_k».proof.Proof.ValueFrame
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre

@[expose] public section

noncomputable section

namespace Cert.Proof

open Idealize.ShloMosaic

/-- The kernel's frame. -/
theorem frame_p : Cert.quiescent_Kernel := fun m ρ h => Cert.Proof.Kernel.frame m ρ fun c => ids_of_pre _ _ _ _ _ _ (h c)

/-- The idealized kernel's frame. -/
theorem frame_pi : Cert.quiescent_KernelIdeal := fun m ρ h => Cert.Proof.KernelIdeal.frame m ρ fun c => ids_of_pre _ _ _ _ _ _ (h c)

/-- The reference's frame. -/
theorem frame_ri : Cert.quiescent_ReferenceIdeal := fun m ρ _ => Cert.ReferenceIdeal.Gen.frame m ρ

/-- The reference's frame under the precondition. -/
theorem frame_ri_pre : Cert.quiescent_ReferenceIdeal_pre_pre := fun m ρ _ => Cert.ReferenceIdeal.Gen.frame m ρ

/-- The rewrites of the idealization: the re-typed buffers, their zero fills, the pack and the rows read of them. -/
theorem preserves : Cert.preserves_Kernel_KernelIdeal :=
  open Cert.KernelIdeal IdealRules.bf16_pair in
  ⟨bufferStatement S512x2x128 S512x1x128, bufferStatement S1112x2x128 S1112x1x128, statement S1112x2x128 S1112x1x128,
    selectZeroStatement S1112x128, packStatement S512x128, statement S512x2x128 S512x1x128, statement S1x2x128 S1x1x128,
    statement S2x128 S1x128, statement S1104x2x128 S1104x1x128, statement S2208x128 S1104x128⟩

theorem claim : Cert.Claim :=
  ⟨Cert.Kernel.Gen.facts, Cert.KernelIdeal.Gen.facts, Cert.ReferenceIdeal.Gen.facts, Cert.Pre_pre.Gen.facts,
    frame_p, frame_pi, frame_ri, frame_ri_pre, preserves, algebraic⟩

end Cert.Proof

end
